-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.named_const.Statement Cert.KernelIdeal.κ "mask" .f32 0xF149F2CA#32 ⊥

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v345) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x96x14x14 : Shape := ⟨4, ![1, 96, 14, 14]⟩
abbrev S1x3x224x224 : Shape := ⟨4, ![1, 3, 224, 224]⟩
abbrev S1x1x14x14 : Shape := ⟨4, ![1, 1, 14, 14]⟩
abbrev S406x4 : Shape := ⟨2, ![406, 4]⟩
abbrev S5x406 : Shape := ⟨2, ![5, 406]⟩
abbrev S14x14 : Shape := ⟨2, ![14, 14]⟩
abbrev S1x196 : Shape := ⟨2, ![1, 196]⟩
abbrev S4x196 : Shape := ⟨2, ![4, 196]⟩
abbrev S96x14x14 : Shape := ⟨3, ![96, 14, 14]⟩
abbrev S14x14x96 : Shape := ⟨3, ![14, 14, 96]⟩
abbrev S196x96 : Shape := ⟨2, ![196, 96]⟩
abbrev S3x224x224 : Shape := ⟨3, ![3, 224, 224]⟩
abbrev S3x14x16x14x16 : Shape := ⟨5, ![3, 14, 16, 14, 16]⟩
abbrev S14x14x3x16x16 : Shape := ⟨5, ![14, 14, 3, 16, 16]⟩
abbrev S196x3x256 : Shape := ⟨3, ![196, 3, 256]⟩
abbrev S50176x96 : Shape := ⟨2, ![50176, 96]⟩
abbrev S3584x96 : Shape := ⟨2, ![3584, 96]⟩
abbrev S196x3x1 : Shape := ⟨3, ![196, 3, 1]⟩
abbrev S196x3 : Shape := ⟨2, ![196, 3]⟩
abbrev S3x196 : Shape := ⟨2, ![3, 196]⟩
abbrev S8x196 : Shape := ⟨2, ![8, 196]⟩
abbrev S14x3x256 : Shape := ⟨3, ![14, 3, 256]⟩
abbrev S406x1 : Shape := ⟨2, ![406, 1]⟩
abbrev S406x196 : Shape := ⟨2, ![406, 196]⟩
abbrev S406x96 : Shape := ⟨2, ![406, 96]⟩
abbrev S1x406 : Shape := ⟨2, ![1, 406]⟩
abbrev S196x406 : Shape := ⟨2, ![196, 406]⟩
abbrev S8x406 : Shape := ⟨2, ![8, 406]⟩
abbrev S12x406 : Shape := ⟨2, ![12, 406]⟩
abbrev S406x12 : Shape := ⟨2, ![406, 12]⟩
abbrev S14x29x12 : Shape := ⟨3, ![14, 29, 12]⟩
abbrev S1x1x256 : Shape := ⟨3, ![1, 1, 256]⟩
abbrev S1x6x256 : Shape := ⟨3, ![1, 6, 256]⟩
abbrev S14x6x256 : Shape := ⟨3, ![14, 6, 256]⟩
abbrev S14x1x256 : Shape := ⟨3, ![14, 1, 256]⟩
abbrev S1x256 : Shape := ⟨2, ![1, 256]⟩
abbrev S14x256 : Shape := ⟨2, ![14, 256]⟩
abbrev S256 : Shape := ⟨1, ![256]⟩
abbrev S14x14x256 : Shape := ⟨3, ![14, 14, 256]⟩
abbrev S1x14x256 : Shape := ⟨3, ![1, 14, 256]⟩
abbrev S14x12x256 : Shape := ⟨3, ![14, 12, 256]⟩
abbrev S14x29x256 : Shape := ⟨3, ![14, 29, 256]⟩
abbrev S14x29x96 : Shape := ⟨3, ![14, 29, 96]⟩
abbrev S14x256x96 : Shape := ⟨3, ![14, 256, 96]⟩
abbrev S14x16x16x96 : Shape := ⟨4, ![14, 16, 16, 96]⟩
abbrev S16x14x16x96 : Shape := ⟨4, ![16, 14, 16, 96]⟩
abbrev S96x50176 : Shape := ⟨2, ![96, 50176]⟩
abbrev S1x96x224x224 : Shape := ⟨4, ![1, 96, 224, 224]⟩

abbrev nBuf : Space → Nat
  | .hbm => 28
  | .vmem => 8
  | .smem => 0
  | _ => 0

abbrev bufTy : (tb : Table) → Fin (tcTables nBuf tb) → BufTy
  | .hbm, ⟨0, _⟩ => ⟨S1x96x14x14, .f32⟩
  | .hbm, ⟨1, _⟩ => ⟨S1x3x224x224, .f32⟩
  | .hbm, ⟨2, _⟩ => ⟨S1x1x14x14, .f32⟩
  | .hbm, ⟨3, _⟩ => ⟨S1x1x14x14, .f32⟩
  | .hbm, ⟨4, _⟩ => ⟨S1x1x14x14, .f32⟩
  | .hbm, ⟨5, _⟩ => ⟨S1x1x14x14, .f32⟩
  | .hbm, ⟨6, _⟩ => ⟨S406x4, .i32⟩
  | .hbm, ⟨7, _⟩ => ⟨S5x406, .f32⟩
  | .hbm, ⟨8, _⟩ => ⟨S14x14, .f32⟩
  | .hbm, ⟨9, _⟩ => ⟨S14x14, .f32⟩
  | .hbm, ⟨10, _⟩ => ⟨S14x14, .f32⟩
  | .hbm, ⟨11, _⟩ => ⟨S14x14, .f32⟩
  | .hbm, ⟨12, _⟩ => ⟨S14x14, .f32⟩
  | .hbm, ⟨13, _⟩ => ⟨S1x196, .f32⟩
  | .hbm, ⟨14, _⟩ => ⟨S1x196, .f32⟩
  | .hbm, ⟨15, _⟩ => ⟨S1x196, .f32⟩
  | .hbm, ⟨16, _⟩ => ⟨S1x196, .f32⟩
  | .hbm, ⟨17, _⟩ => ⟨S4x196, .f32⟩
  | .hbm, ⟨18, _⟩ => ⟨S96x14x14, .f32⟩
  | .hbm, ⟨19, _⟩ => ⟨S14x14x96, .f32⟩
  | .hbm, ⟨20, _⟩ => ⟨S196x96, .f32⟩
  | .hbm, ⟨21, _⟩ => ⟨S3x224x224, .f32⟩
  | .hbm, ⟨22, _⟩ => ⟨S3x14x16x14x16, .f32⟩
  | .hbm, ⟨23, _⟩ => ⟨S14x14x3x16x16, .f32⟩
  | .hbm, ⟨24, _⟩ => ⟨S196x3x256, .f32⟩
  | .hbm, ⟨25, _⟩ => ⟨S50176x96, .f32⟩
  | .hbm, ⟨26, _⟩ => ⟨S96x50176, .f32⟩
  | .hbm, ⟨27, _⟩ => ⟨S1x96x224x224, .f32⟩
  | .local _ .vmem, ⟨0, _⟩ => ⟨S406x4, .i32⟩
  | .local _ .vmem, ⟨1, _⟩ => ⟨S5x406, .f32⟩
  | .local _ .vmem, ⟨2, _⟩ => ⟨S4x196, .f32⟩
  | .local _ .vmem, ⟨3, _⟩ => ⟨S196x96, .f32⟩
  | .local _ .vmem, ⟨4, _⟩ => ⟨S14x14, .f32⟩
  | .local _ .vmem, ⟨5, _⟩ => ⟨S196x3x256, .f32⟩
  | .local _ .vmem, ⟨6, _⟩ => ⟨S3584x96, .f32⟩
  | .local _ .vmem, ⟨7, _⟩ => ⟨S3584x96, .f32⟩
  | _, _ => ⟨S1x96x14x14, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg6_1 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem6_1 : DmaSem sig := 7

abbrev nD : Nat := 1
abbrev τ : Topo := Topo.v7x

variable {F : FTy → Type} [FloatOps F]

abbrev grid0 : Pipeline.Grid := ⟨1, ![14], ![false]⟩

def k0_off1 (i : grid0.Coords) : Fin 3 → Nat :=
  let arg0 : BitVec 32 := BitVec.ofNat 32 (i 0).val
  let c14_i32 : BitVec 32 := 14#32
  let v81 : BitVec 32 := Scalar.muli arg0 c14_i32
  let v82 : Index := Scalar.indexCast v81
  let c0_25 : Index := 0#32
  let c0_26 : Index := 0#32
  ![v82.toNat, 0, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S406x4 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S5x406 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x196 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S196x96 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S14x14 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S196x3x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S3584x96 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== KernelIdeal.lean ====
variable {F : FTy → Type} [FloatOps F] [Named F]
def κ : String → Option EReal := fun
  | "mask" => some ⊥
  | _ => none
-- ==== ReferenceIdeal.lean ====
abbrev S1x96x14x14 : Shape := ⟨4, ![1, 96, 14, 14]⟩
abbrev S1x3x224x224 : Shape := ⟨4, ![1, 3, 224, 224]⟩
abbrev S1x1x14x14 : Shape := ⟨4, ![1, 1, 14, 14]⟩
abbrev S_ : Shape := ⟨0, ![]⟩
abbrev S224x224 : Shape := ⟨2, ![224, 224]⟩
abbrev S14x14 : Shape := ⟨2, ![14, 14]⟩
abbrev S224x14 : Shape := ⟨2, ![224, 14]⟩
abbrev S224 : Shape := ⟨1, ![224]⟩
abbrev S224x1 : Shape := ⟨2, ![224, 1]⟩
abbrev S14x224 : Shape := ⟨2, ![14, 224]⟩
abbrev S1x1x224x224 : Shape := ⟨4, ![1, 1, 224, 224]⟩
abbrev S14 : Shape := ⟨1, ![14]⟩
abbrev S14x1 : Shape := ⟨2, ![14, 1]⟩
abbrev S96x14x14 : Shape := ⟨3, ![96, 14, 14]⟩
abbrev S14x14x96 : Shape := ⟨3, ![14, 14, 96]⟩
abbrev S196x96 : Shape := ⟨2, ![196, 96]⟩
abbrev S49x1x1 : Shape := ⟨3, ![49, 1, 1]⟩
abbrev S1x224x224 : Shape := ⟨3, ![1, 224, 224]⟩
abbrev S49x224x224 : Shape := ⟨3, ![49, 224, 224]⟩
abbrev S196 : Shape := ⟨1, ![196]⟩
abbrev S49x224x224x1 : Shape := ⟨4, ![49, 224, 224, 1]⟩
abbrev S49x224x224x96 : Shape := ⟨4, ![49, 224, 224, 96]⟩
abbrev S224x224x96 : Shape := ⟨3, ![224, 224, 96]⟩
abbrev S96x224x224 : Shape := ⟨3, ![96, 224, 224]⟩
abbrev S1x96x224x224 : Shape := ⟨4, ![1, 96, 224, 224]⟩

abbrev nBuf : Space → Nat
  | .hbm => 474
  | .vmem => 0
  | .smem => 0
  | _ => 0

abbrev hbmTy0_0 (i : Nat) : BufTy := match i % 128 with
  | 0 => ⟨S1x96x14x14, .f32⟩
  | 1 => ⟨S1x3x224x224, .f32⟩
  | 2 => ⟨S1x1x14x14, .f32⟩
  | 3 => ⟨S1x1x14x14, .f32⟩
  | 4 => ⟨S1x1x14x14, .f32⟩
  | 5 => ⟨S1x1x14x14, .f32⟩
  | 6 => ⟨S1x1x14x14, .f32⟩
  | 7 => ⟨S1x1x14x14, .f32⟩
  | 8 => ⟨S1x1x14x14, .f32⟩
  | 9 => ⟨S_, .f32⟩
  | 10 => ⟨S1x1x14x14, .f32⟩
  | 11 => ⟨S1x1x14x14, .f32⟩
  | 12 => ⟨S1x1x14x14, .f32⟩
  | 13 => ⟨S224x224, .f32⟩
  | 14 => ⟨S224x224, .f32⟩
  | 15 => ⟨S_, .f32⟩
  | 16 => ⟨S224x224, .f32⟩
  | 17 => ⟨S224x224, .f32⟩
  | 18 => ⟨S_, .f32⟩
  | 19 => ⟨S224x224, .f32⟩
  | 20 => ⟨S224x224, .f32⟩
  | 21 => ⟨S_, .f32⟩
  | 22 => ⟨S224x224, .f32⟩
  | 23 => ⟨S224x224, .f32⟩
  | 24 => ⟨S_, .f32⟩
  | 25 => ⟨S224x224, .f32⟩
  | 26 => ⟨S224x224, .f32⟩
  | 27 => ⟨S_, .f32⟩
  | 28 => ⟨S224x224, .f32⟩
  | 29 => ⟨S224x224, .f32⟩
  | 30 => ⟨S_, .f32⟩
  | 31 => ⟨S224x224, .f32⟩
  | 32 => ⟨S224x224, .f32⟩
  | 33 => ⟨S224x224, .f32⟩
  | 34 => ⟨S_, .i32⟩
  | 35 => ⟨S_, .i32⟩
  | 36 => ⟨S_, .f32⟩
  | 37 => ⟨S224x224, .f32⟩
  | 38 => ⟨S224x224, .f32⟩
  | 39 => ⟨S_, .f32⟩
  | 40 => ⟨S224x224, .f32⟩
  | 41 => ⟨S224x224, .f32⟩
  | 42 => ⟨S224x224, .i32⟩
  | 43 => ⟨S224x224, .f32⟩
  | 44 => ⟨S_, .i32⟩
  | 45 => ⟨S_, .i32⟩
  | 46 => ⟨S_, .f32⟩
  | 47 => ⟨S224x224, .f32⟩
  | 48 => ⟨S224x224, .f32⟩
  | 49 => ⟨S_, .f32⟩
  | 50 => ⟨S224x224, .f32⟩
  | 51 => ⟨S224x224, .f32⟩
  | 52 => ⟨S224x224, .i32⟩
  | 53 => ⟨S1x1x14x14, .f32⟩
  | 54 => ⟨S14x14, .f32⟩
  | 55 => ⟨S224x14, .f32⟩
  | 56 => ⟨S_, .f32⟩
  | 57 => ⟨S224x14, .f32⟩
  | 58 => ⟨S224x14, .f32⟩
  | 59 => ⟨S_, .f32⟩
  | 60 => ⟨S224x14, .f32⟩
  | 61 => ⟨S224x14, .f32⟩
  | 62 => ⟨S_, .f32⟩
  | 63 => ⟨S224x14, .f32⟩
  | 64 => ⟨S224x14, .f32⟩
  | 65 => ⟨S224x14, .f32⟩
  | 66 => ⟨S224x14, .f32⟩
  | 67 => ⟨S224x14, .f32⟩
  | 68 => ⟨S_, .f32⟩
  | 69 => ⟨S224x14, .f32⟩
  | 70 => ⟨S224x14, .f32⟩
  | 71 => ⟨S_, .f32⟩
  | 72 => ⟨S224x14, .f32⟩
  | 73 => ⟨S224x14, .f32⟩
  | 74 => ⟨S_, .f32⟩
  | 75 => ⟨S224, .f32⟩
  | 76 => ⟨S224x1, .f32⟩
  | 77 => ⟨S224x14, .f32⟩
  | 78 => ⟨S224x14, .f32⟩
  | 79 => ⟨S224x14, .f32⟩
  | 80 => ⟨S14x224, .f32⟩
  | 81 => ⟨S224x224, .f32⟩
  | 82 => ⟨S_, .f32⟩
  | 83 => ⟨S224x224, .f32⟩
  | 84 => ⟨S224x224, .f32⟩
  | 85 => ⟨S224x224, .f32⟩
  | 86 => ⟨S_, .i32⟩
  | 87 => ⟨S_, .i32⟩
  | 88 => ⟨S_, .f32⟩
  | 89 => ⟨S224x224, .f32⟩
  | 90 => ⟨S224x224, .f32⟩
  | 91 => ⟨S_, .f32⟩
  | 92 => ⟨S224x224, .f32⟩
  | 93 => ⟨S224x224, .f32⟩
  | 94 => ⟨S224x224, .i32⟩
  | 95 => ⟨S1x1x224x224, .f32⟩
  | 96 => ⟨S224x224, .f32⟩
  | 97 => ⟨S14x224, .f32⟩
  | 98 => ⟨S_, .f32⟩
  | 99 => ⟨S14x224, .f32⟩
  | 100 => ⟨S14x224, .f32⟩
  | 101 => ⟨S_, .f32⟩
  | 102 => ⟨S14x224, .f32⟩
  | 103 => ⟨S14x224, .f32⟩
  | 104 => ⟨S_, .f32⟩
  | 105 => ⟨S14x224, .f32⟩
  | 106 => ⟨S14x224, .f32⟩
  | 107 => ⟨S14x224, .f32⟩
  | 108 => ⟨S14x224, .f32⟩
  | 109 => ⟨S14x224, .f32⟩
  | 110 => ⟨S_, .f32⟩
  | 111 => ⟨S14x224, .f32⟩
  | 112 => ⟨S14x224, .f32⟩
  | 113 => ⟨S_, .f32⟩
  | 114 => ⟨S14x224, .f32⟩
  | 115 => ⟨S14x224, .f32⟩
  | 116 => ⟨S_, .f32⟩
  | 117 => ⟨S14, .f32⟩
  | 118 => ⟨S14x1, .f32⟩
  | 119 => ⟨S14x224, .f32⟩
  | 120 => ⟨S14x224, .f32⟩
  | 121 => ⟨S14x224, .f32⟩
  | 122 => ⟨S224x14, .f32⟩
  | 123 => ⟨S14x14, .f32⟩
  | 124 => ⟨S1x1x224x224, .f32⟩
  | 125 => ⟨S224x224, .f32⟩
  | 126 => ⟨S14x224, .f32⟩
  | 127 => ⟨S_, .f32⟩
  | _ => ⟨S1x96x14x14, .f32⟩

abbrev hbmTy0_1 (i : Nat) : BufTy := match i % 128 with
  | 0 => ⟨S14x224, .f32⟩
  | 1 => ⟨S14x224, .f32⟩
  | 2 => ⟨S_, .f32⟩
  | 3 => ⟨S14x224, .f32⟩
  | 4 => ⟨S14x224, .f32⟩
  | 5 => ⟨S_, .f32⟩
  | 6 => ⟨S14x224, .f32⟩
  | 7 => ⟨S14x224, .f32⟩
  | 8 => ⟨S14x224, .f32⟩
  | 9 => ⟨S14x224, .f32⟩
  | 10 => ⟨S14x224, .f32⟩
  | 11 => ⟨S_, .f32⟩
  | 12 => ⟨S14x224, .f32⟩
  | 13 => ⟨S14x224, .f32⟩
  | 14 => ⟨S_, .f32⟩
  | 15 => ⟨S14x224, .f32⟩
  | 16 => ⟨S14x224, .f32⟩
  | 17 => ⟨S_, .f32⟩
  | 18 => ⟨S14, .f32⟩
  | 19 => ⟨S14x1, .f32⟩
  | 20 => ⟨S14x224, .f32⟩
  | 21 => ⟨S14x224, .f32⟩
  | 22 => ⟨S14x224, .f32⟩
  | 23 => ⟨S224x14, .f32⟩
  | 24 => ⟨S14x14, .f32⟩
  | 25 => ⟨S1x1x224x224, .f32⟩
  | 26 => ⟨S224x224, .f32⟩
  | 27 => ⟨S14x224, .f32⟩
  | 28 => ⟨S_, .f32⟩
  | 29 => ⟨S14x224, .f32⟩
  | 30 => ⟨S14x224, .f32⟩
  | 31 => ⟨S_, .f32⟩
  | 32 => ⟨S14x224, .f32⟩
  | 33 => ⟨S14x224, .f32⟩
  | 34 => ⟨S_, .f32⟩
  | 35 => ⟨S14x224, .f32⟩
  | 36 => ⟨S14x224, .f32⟩
  | 37 => ⟨S14x224, .f32⟩
  | 38 => ⟨S14x224, .f32⟩
  | 39 => ⟨S14x224, .f32⟩
  | 40 => ⟨S_, .f32⟩
  | 41 => ⟨S14x224, .f32⟩
  | 42 => ⟨S14x224, .f32⟩
  | 43 => ⟨S_, .f32⟩
  | 44 => ⟨S14x224, .f32⟩
  | 45 => ⟨S14x224, .f32⟩
  | 46 => ⟨S_, .f32⟩
  | 47 => ⟨S14, .f32⟩
  | 48 => ⟨S14x1, .f32⟩
  | 49 => ⟨S14x224, .f32⟩
  | 50 => ⟨S14x224, .f32⟩
  | 51 => ⟨S14x224, .f32⟩
  | 52 => ⟨S224x14, .f32⟩
  | 53 => ⟨S14x14, .f32⟩
  | 54 => ⟨S96x14x14, .f32⟩
  | 55 => ⟨S14x14x96, .f32⟩
  | 56 => ⟨S196x96, .f32⟩
  | 57 => ⟨S49x1x1, .i32⟩
  | 58 => ⟨S_, .i32⟩
  | 59 => ⟨S49x1x1, .i32⟩
  | 60 => ⟨S49x1x1, .i32⟩
  | 61 => ⟨S_, .i32⟩
  | 62 => ⟨S49x1x1, .i32⟩
  | 63 => ⟨S49x1x1, .i32⟩
  | 64 => ⟨S_, .i32⟩
  | 65 => ⟨S49x1x1, .i32⟩
  | 66 => ⟨S49x1x1, .i32⟩
  | 67 => ⟨S_, .i32⟩
  | 68 => ⟨S49x1x1, .i32⟩
  | 69 => ⟨S49x1x1, .i32⟩
  | 70 => ⟨S1x224x224, .i32⟩
  | 71 => ⟨S49x224x224, .i32⟩
  | 72 => ⟨S49x224x224, .i32⟩
  | 73 => ⟨S49x224x224, .i32⟩
  | 74 => ⟨S_, .i32⟩
  | 75 => ⟨S_, .i32⟩
  | 76 => ⟨S_, .i32⟩
  | 77 => ⟨S49x224x224, .i32⟩
  | 78 => ⟨S49x224x224, .i32⟩
  | 79 => ⟨S_, .i32⟩
  | 80 => ⟨S49x224x224, .i32⟩
  | 81 => ⟨S49x224x224, .i32⟩
  | 82 => ⟨S1x224x224, .i32⟩
  | 83 => ⟨S49x224x224, .i32⟩
  | 84 => ⟨S49x224x224, .i32⟩
  | 85 => ⟨S49x224x224, .i32⟩
  | 86 => ⟨S_, .i32⟩
  | 87 => ⟨S_, .i32⟩
  | 88 => ⟨S_, .i32⟩
  | 89 => ⟨S49x224x224, .i32⟩
  | 90 => ⟨S49x224x224, .i32⟩
  | 91 => ⟨S_, .i32⟩
  | 92 => ⟨S49x224x224, .i32⟩
  | 93 => ⟨S49x224x224, .i32⟩
  | 94 => ⟨S49x1x1, .i32⟩
  | 95 => ⟨S49x1x1, .i32⟩
  | 96 => ⟨S49x1x1, .i32⟩
  | 97 => ⟨S1x224x224, .i32⟩
  | 98 => ⟨S1x224x224, .i32⟩
  | 99 => ⟨S1x224x224, .i32⟩
  | 100 => ⟨S49x224x224, .i32⟩
  | 101 => ⟨S49x224x224, .i32⟩
  | 102 => ⟨S49x224x224, .i1⟩
  | 103 => ⟨S1x224x224, .f32⟩
  | 104 => ⟨S49x224x224, .f32⟩
  | 105 => ⟨S_, .f32⟩
  | 106 => ⟨S49x224x224, .f32⟩
  | 107 => ⟨S49x224x224, .f32⟩
  | 108 => ⟨S_, .f32⟩
  | 109 => ⟨S49x224x224, .f32⟩
  | 110 => ⟨S49x224x224, .f32⟩
  | 111 => ⟨S_, .f32⟩
  | 112 => ⟨S49x224x224, .f32⟩
  | 113 => ⟨S49x224x224, .f32⟩
  | 114 => ⟨S49x224x224, .f32⟩
  | 115 => ⟨S49x224x224, .f32⟩
  | 116 => ⟨S1x224x224, .f32⟩
  | 117 => ⟨S49x224x224, .f32⟩
  | 118 => ⟨S_, .f32⟩
  | 119 => ⟨S49x224x224, .f32⟩
  | 120 => ⟨S49x224x224, .f32⟩
  | 121 => ⟨S_, .f32⟩
  | 122 => ⟨S49x224x224, .f32⟩
  | 123 => ⟨S49x224x224, .f32⟩
  | 124 => ⟨S_, .f32⟩
  | 125 => ⟨S49x224x224, .f32⟩
  | 126 => ⟨S49x224x224, .f32⟩
  | 127 => ⟨S49x224x224, .f32⟩
  | _ => ⟨S1x96x14x14, .f32⟩

abbrev hbmTy0_2 (i : Nat) : BufTy := match i % 128 with
  | 0 => ⟨S49x224x224, .f32⟩
  | 1 => ⟨S14x14, .f32⟩
  | 2 => ⟨S196, .f32⟩
  | 3 => ⟨S_, .i32⟩
  | 4 => ⟨S49x224x224, .i32⟩
  | 5 => ⟨S49x224x224, .i32⟩
  | 6 => ⟨S49x224x224, .i32⟩
  | 7 => ⟨S_, .i32⟩
  | 8 => ⟨S49x224x224, .i32⟩
  | 9 => ⟨S49x224x224, .i1⟩
  | 10 => ⟨S_, .i32⟩
  | 11 => ⟨S49x224x224, .i32⟩
  | 12 => ⟨S49x224x224, .i32⟩
  | 13 => ⟨S49x224x224, .i32⟩
  | 14 => ⟨S49x224x224x1, .i32⟩
  | 15 => ⟨S49x224x224, .f32⟩
  | 16 => ⟨S_, .f32⟩
  | 17 => ⟨S49x224x224, .f32⟩
  | 18 => ⟨S49x224x224, .f32⟩
  | 19 => ⟨S14x14, .f32⟩
  | 20 => ⟨S196, .f32⟩
  | 21 => ⟨S_, .i32⟩
  | 22 => ⟨S49x224x224, .i32⟩
  | 23 => ⟨S49x224x224, .i32⟩
  | 24 => ⟨S49x224x224, .i32⟩
  | 25 => ⟨S_, .i32⟩
  | 26 => ⟨S49x224x224, .i32⟩
  | 27 => ⟨S49x224x224, .i1⟩
  | 28 => ⟨S_, .i32⟩
  | 29 => ⟨S49x224x224, .i32⟩
  | 30 => ⟨S49x224x224, .i32⟩
  | 31 => ⟨S49x224x224, .i32⟩
  | 32 => ⟨S49x224x224x1, .i32⟩
  | 33 => ⟨S49x224x224, .f32⟩
  | 34 => ⟨S_, .f32⟩
  | 35 => ⟨S49x224x224, .f32⟩
  | 36 => ⟨S49x224x224, .f32⟩
  | 37 => ⟨S14x14, .f32⟩
  | 38 => ⟨S196, .f32⟩
  | 39 => ⟨S_, .i32⟩
  | 40 => ⟨S49x224x224, .i32⟩
  | 41 => ⟨S49x224x224, .i32⟩
  | 42 => ⟨S49x224x224, .i32⟩
  | 43 => ⟨S_, .i32⟩
  | 44 => ⟨S49x224x224, .i32⟩
  | 45 => ⟨S49x224x224, .i1⟩
  | 46 => ⟨S_, .i32⟩
  | 47 => ⟨S49x224x224, .i32⟩
  | 48 => ⟨S49x224x224, .i32⟩
  | 49 => ⟨S49x224x224, .i32⟩
  | 50 => ⟨S49x224x224x1, .i32⟩
  | 51 => ⟨S49x224x224, .f32⟩
  | 52 => ⟨S14x14, .f32⟩
  | 53 => ⟨S196, .f32⟩
  | 54 => ⟨S_, .i32⟩
  | 55 => ⟨S49x224x224, .i32⟩
  | 56 => ⟨S49x224x224, .i32⟩
  | 57 => ⟨S49x224x224, .i32⟩
  | 58 => ⟨S_, .i32⟩
  | 59 => ⟨S49x224x224, .i32⟩
  | 60 => ⟨S49x224x224, .i1⟩
  | 61 => ⟨S_, .i32⟩
  | 62 => ⟨S49x224x224, .i32⟩
  | 63 => ⟨S49x224x224, .i32⟩
  | 64 => ⟨S49x224x224, .i32⟩
  | 65 => ⟨S49x224x224x1, .i32⟩
  | 66 => ⟨S49x224x224, .f32⟩
  | 67 => ⟨S_, .f32⟩
  | 68 => ⟨S49x224x224, .f32⟩
  | 69 => ⟨S49x224x224, .f32⟩
  | 70 => ⟨S49x224x224, .f32⟩
  | 71 => ⟨S49x224x224, .f32⟩
  | 72 => ⟨S49x224x224, .f32⟩
  | 73 => ⟨S49x224x224, .f32⟩
  | 74 => ⟨S49x224x224, .f32⟩
  | 75 => ⟨S49x224x224, .f32⟩
  | 76 => ⟨S49x224x224, .f32⟩
  | 77 => ⟨S49x224x224, .f32⟩
  | 78 => ⟨S_, .f32⟩
  | 79 => ⟨S49x224x224, .f32⟩
  | 80 => ⟨S49x224x224, .f32⟩
  | 81 => ⟨S_, .f32⟩
  | 82 => ⟨S49x224x224, .f32⟩
  | 83 => ⟨S49x224x224, .f32⟩
  | 84 => ⟨S49x224x224, .f32⟩
  | 85 => ⟨S49x224x224, .f32⟩
  | 86 => ⟨S49x224x224, .f32⟩
  | 87 => ⟨S49x224x224, .f32⟩
  | 88 => ⟨S49x224x224, .f32⟩
  | 89 => ⟨S49x224x224, .f32⟩
  | 90 => ⟨S49x224x224, .f32⟩
  | 91 => ⟨S_, .f32⟩
  | 92 => ⟨S49x224x224, .f32⟩
  | 93 => ⟨S49x224x224, .f32⟩
  | 94 => ⟨S_, .f32⟩
  | 95 => ⟨S49x224x224, .f32⟩
  | 96 => ⟨S49x224x224, .f32⟩
  | 97 => ⟨S49x224x224, .f32⟩
  | 98 => ⟨S49x224x224, .f32⟩
  | 99 => ⟨S1x1x224x224, .f32⟩
  | 100 => ⟨S224x224, .f32⟩
  | 101 => ⟨S1x224x224, .f32⟩
  | 102 => ⟨S196, .f32⟩
  | 103 => ⟨S_, .i32⟩
  | 104 => ⟨S49x224x224, .i32⟩
  | 105 => ⟨S49x224x224, .i32⟩
  | 106 => ⟨S49x224x224, .i32⟩
  | 107 => ⟨S_, .i32⟩
  | 108 => ⟨S49x224x224, .i32⟩
  | 109 => ⟨S49x224x224, .i1⟩
  | 110 => ⟨S_, .i32⟩
  | 111 => ⟨S49x224x224, .i32⟩
  | 112 => ⟨S49x224x224, .i32⟩
  | 113 => ⟨S49x224x224, .i32⟩
  | 114 => ⟨S49x224x224x1, .i32⟩
  | 115 => ⟨S49x224x224, .f32⟩
  | 116 => ⟨S49x224x224, .f32⟩
  | 117 => ⟨S49x224x224, .f32⟩
  | 118 => ⟨S49x224x224, .f32⟩
  | 119 => ⟨S_, .f32⟩
  | 120 => ⟨S49x224x224, .f32⟩
  | 121 => ⟨S49x224x224, .f32⟩
  | 122 => ⟨S1x1x224x224, .f32⟩
  | 123 => ⟨S224x224, .f32⟩
  | 124 => ⟨S1x224x224, .f32⟩
  | 125 => ⟨S196, .f32⟩
  | 126 => ⟨S_, .i32⟩
  | 127 => ⟨S49x224x224, .i32⟩
  | _ => ⟨S1x96x14x14, .f32⟩

abbrev hbmTy0_3 (i : Nat) : BufTy := match i % 128 with
  | 0 => ⟨S49x224x224, .i32⟩
  | 1 => ⟨S49x224x224, .i32⟩
  | 2 => ⟨S_, .i32⟩
  | 3 => ⟨S49x224x224, .i32⟩
  | 4 => ⟨S49x224x224, .i1⟩
  | 5 => ⟨S_, .i32⟩
  | 6 => ⟨S49x224x224, .i32⟩
  | 7 => ⟨S49x224x224, .i32⟩
  | 8 => ⟨S49x224x224, .i32⟩
  | 9 => ⟨S49x224x224x1, .i32⟩
  | 10 => ⟨S49x224x224, .f32⟩
  | 11 => ⟨S49x224x224, .f32⟩
  | 12 => ⟨S49x224x224, .f32⟩
  | 13 => ⟨S49x224x224, .f32⟩
  | 14 => ⟨S49x224x224, .f32⟩
  | 15 => ⟨S1x1x224x224, .f32⟩
  | 16 => ⟨S224x224, .f32⟩
  | 17 => ⟨S1x224x224, .f32⟩
  | 18 => ⟨S196, .f32⟩
  | 19 => ⟨S_, .i32⟩
  | 20 => ⟨S49x224x224, .i32⟩
  | 21 => ⟨S49x224x224, .i32⟩
  | 22 => ⟨S49x224x224, .i32⟩
  | 23 => ⟨S_, .i32⟩
  | 24 => ⟨S49x224x224, .i32⟩
  | 25 => ⟨S49x224x224, .i1⟩
  | 26 => ⟨S_, .i32⟩
  | 27 => ⟨S49x224x224, .i32⟩
  | 28 => ⟨S49x224x224, .i32⟩
  | 29 => ⟨S49x224x224, .i32⟩
  | 30 => ⟨S49x224x224x1, .i32⟩
  | 31 => ⟨S49x224x224, .f32⟩
  | 32 => ⟨S49x224x224, .f32⟩
  | 33 => ⟨S49x224x224, .f32⟩
  | 34 => ⟨S49x224x224, .f32⟩
  | 35 => ⟨S49x224x224, .f32⟩
  | 36 => ⟨S49x224x224, .f32⟩
  | 37 => ⟨S_, .f32⟩
  | 38 => ⟨S49x224x224, .f32⟩
  | 39 => ⟨S49x224x224, .f32⟩
  | 40 => ⟨S_, .f32⟩
  | 41 => ⟨S49x224x224, .f32⟩
  | 42 => ⟨S49x224x224, .f32⟩
  | 43 => ⟨S49x224x224, .f32⟩
  | 44 => ⟨S49x224x224, .f32⟩
  | 45 => ⟨S_, .f32⟩
  | 46 => ⟨S_, .f32⟩
  | 47 => ⟨S49x224x224, .f32⟩
  | 48 => ⟨S49x224x224, .f32⟩
  | 49 => ⟨S_, .f32⟩
  | 50 => ⟨S224x224, .f32⟩
  | 51 => ⟨S_, .f32⟩
  | 52 => ⟨S49x224x224, .f32⟩
  | 53 => ⟨S49x224x224, .i1⟩
  | 54 => ⟨S1x224x224, .f32⟩
  | 55 => ⟨S49x224x224, .f32⟩
  | 56 => ⟨S49x224x224, .f32⟩
  | 57 => ⟨S49x224x224, .f32⟩
  | 58 => ⟨S_, .f32⟩
  | 59 => ⟨S_, .f32⟩
  | 60 => ⟨S49x224x224, .f32⟩
  | 61 => ⟨S49x224x224, .f32⟩
  | 62 => ⟨S_, .f32⟩
  | 63 => ⟨S224x224, .f32⟩
  | 64 => ⟨S_, .i32⟩
  | 65 => ⟨S49x224x224, .i32⟩
  | 66 => ⟨S49x224x224, .i32⟩
  | 67 => ⟨S49x224x224, .i32⟩
  | 68 => ⟨S_, .i32⟩
  | 69 => ⟨S49x224x224, .i32⟩
  | 70 => ⟨S49x224x224, .i1⟩
  | 71 => ⟨S_, .i32⟩
  | 72 => ⟨S49x224x224, .i32⟩
  | 73 => ⟨S49x224x224, .i32⟩
  | 74 => ⟨S49x224x224, .i32⟩
  | 75 => ⟨S49x224x224x1, .i32⟩
  | 76 => ⟨S49x224x224x96, .f32⟩
  | 77 => ⟨S49x224x224x1, .f32⟩
  | 78 => ⟨S49x224x224x96, .f32⟩
  | 79 => ⟨S49x224x224x96, .f32⟩
  | 80 => ⟨S_, .f32⟩
  | 81 => ⟨S224x224x96, .f32⟩
  | 82 => ⟨S96x224x224, .f32⟩
  | 83 => ⟨S_, .f32⟩
  | 84 => ⟨S224x224, .f32⟩
  | 85 => ⟨S224x224, .f32⟩
  | 86 => ⟨S1x224x224, .f32⟩
  | 87 => ⟨S96x224x224, .f32⟩
  | 88 => ⟨S96x224x224, .f32⟩
  | 89 => ⟨S1x96x224x224, .f32⟩
  | _ => ⟨S1x96x14x14, .f32⟩

abbrev hbmTy (i : Nat) : BufTy := match i / 128 with
  | 0 => hbmTy0_0 i
  | 1 => hbmTy0_1 i
  | 2 => hbmTy0_2 i
  | 3 => hbmTy0_3 i
  | _ => ⟨S1x96x14x14, .f32⟩

abbrev bufTy : (tb : Table) → Fin (tcTables nBuf tb) → BufTy
  | .hbm, ⟨i, _⟩ => hbmTy i
  | _, _ => ⟨S1x96x14x14, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_cst_3 : Ref sig .tc := ⟨.hbm, 24, rfl⟩
abbrev main_v14 : Ref sig .tc := ⟨.hbm, 25, rfl⟩
abbrev main_v15 : Ref sig .tc := ⟨.hbm, 26, rfl⟩
abbrev main_cst_4 : Ref sig .tc := ⟨.hbm, 27, rfl⟩
abbrev main_v16 : Ref sig .tc := ⟨.hbm, 28, rfl⟩
abbrev main_v17 : Ref sig .tc := ⟨.hbm, 29, rfl⟩
abbrev main_cst_5 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_c : Ref sig .tc := ⟨.hbm, 34, rfl⟩
abbrev main_c_6 : Ref sig .tc := ⟨.hbm, 35, rfl⟩
abbrev main_call1_v0 : Ref sig .tc := ⟨.hbm, 36, rfl⟩
abbrev main_call1_v1 : Ref sig .tc := ⟨.hbm, 37, rfl⟩
abbrev main_call1_v2 : Ref sig .tc := ⟨.hbm, 38, rfl⟩
abbrev main_call1_v3 : Ref sig .tc := ⟨.hbm, 39, rfl⟩
abbrev main_call1_v4 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_c_7 : Ref sig .tc := ⟨.hbm, 44, rfl⟩
abbrev main_c_8 : Ref sig .tc := ⟨.hbm, 45, rfl⟩
abbrev main_call3_v0 : Ref sig .tc := ⟨.hbm, 46, rfl⟩
abbrev main_call3_v1 : Ref sig .tc := ⟨.hbm, 47, rfl⟩
abbrev main_call3_v2 : Ref sig .tc := ⟨.hbm, 48, rfl⟩
abbrev main_call3_v3 : Ref sig .tc := ⟨.hbm, 49, rfl⟩
abbrev main_call3_v4 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_cst_9 : Ref sig .tc := ⟨.hbm, 56, rfl⟩
abbrev main_v29 : Ref sig .tc := ⟨.hbm, 57, rfl⟩
abbrev main_v30 : Ref sig .tc := ⟨.hbm, 58, rfl⟩
abbrev main_cst_10 : Ref sig .tc := ⟨.hbm, 59, rfl⟩
abbrev main_v31 : Ref sig .tc := ⟨.hbm, 60, rfl⟩
abbrev main_v32 : Ref sig .tc := ⟨.hbm, 61, rfl⟩
abbrev main_cst_11 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_cst_12 : Ref sig .tc := ⟨.hbm, 68, rfl⟩
abbrev main_v38 : Ref sig .tc := ⟨.hbm, 69, rfl⟩
abbrev main_v39 : Ref sig .tc := ⟨.hbm, 70, rfl⟩
abbrev main_cst_13 : Ref sig .tc := ⟨.hbm, 71, rfl⟩
abbrev main_v40 : Ref sig .tc := ⟨.hbm, 72, rfl⟩
abbrev main_v41 : Ref sig .tc := ⟨.hbm, 73, rfl⟩
abbrev main_cst_14 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_cst_15 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_c_16 : Ref sig .tc := ⟨.hbm, 86, rfl⟩
abbrev main_c_17 : Ref sig .tc := ⟨.hbm, 87, rfl⟩
abbrev main_call4_v0 : Ref sig .tc := ⟨.hbm, 88, rfl⟩
abbrev main_call4_v1 : Ref sig .tc := ⟨.hbm, 89, rfl⟩
abbrev main_call4_v2 : Ref sig .tc := ⟨.hbm, 90, rfl⟩
abbrev main_call4_v3 : Ref sig .tc := ⟨.hbm, 91, rfl⟩
abbrev main_call4_v4 : Ref sig .tc := ⟨.hbm, 92, rfl⟩
abbrev main_v52 : Ref sig .tc := ⟨.hbm, 93, rfl⟩
abbrev main_v53 : Ref sig .tc := ⟨.hbm, 94, rfl⟩
abbrev main_v54 : Ref sig .tc := ⟨.hbm, 95, rfl⟩
abbrev main_v55 : Ref sig .tc := ⟨.hbm, 96, rfl⟩
abbrev main_v56 : Ref sig .tc := ⟨.hbm, 97, rfl⟩
abbrev main_cst_18 : Ref sig .tc := ⟨.hbm, 98, rfl⟩
abbrev main_v57 : Ref sig .tc := ⟨.hbm, 99, rfl⟩
abbrev main_v58 : Ref sig .tc := ⟨.hbm, 100, rfl⟩
abbrev main_cst_19 : Ref sig .tc := ⟨.hbm, 101, rfl⟩
abbrev main_v59 : Ref sig .tc := ⟨.hbm, 102, rfl⟩
abbrev main_v60 : Ref sig .tc := ⟨.hbm, 103, rfl⟩
abbrev main_cst_20 : Ref sig .tc := ⟨.hbm, 104, rfl⟩
abbrev main_v61 : Ref sig .tc := ⟨.hbm, 105, rfl⟩
abbrev main_v62 : Ref sig .tc := ⟨.hbm, 106, rfl⟩
abbrev main_v63 : Ref sig .tc := ⟨.hbm, 107, rfl⟩
abbrev main_v64 : Ref sig .tc := ⟨.hbm, 108, rfl⟩
abbrev main_v65 : Ref sig .tc := ⟨.hbm, 109, rfl⟩
abbrev main_cst_21 : Ref sig .tc := ⟨.hbm, 110, rfl⟩
abbrev main_v66 : Ref sig .tc := ⟨.hbm, 111, rfl⟩
abbrev main_v67 : Ref sig .tc := ⟨.hbm, 112, rfl⟩
abbrev main_cst_22 : Ref sig .tc := ⟨.hbm, 113, rfl⟩
abbrev main_v68 : Ref sig .tc := ⟨.hbm, 114, rfl⟩
abbrev main_v69 : Ref sig .tc := ⟨.hbm, 115, rfl⟩
abbrev main_cst_23 : Ref sig .tc := ⟨.hbm, 116, rfl⟩
abbrev main_v70 : Ref sig .tc := ⟨.hbm, 117, rfl⟩
abbrev main_v71 : Ref sig .tc := ⟨.hbm, 118, rfl⟩
abbrev main_v72 : Ref sig .tc := ⟨.hbm, 119, rfl⟩
abbrev main_v73 : Ref sig .tc := ⟨.hbm, 120, rfl⟩
abbrev main_v74 : Ref sig .tc := ⟨.hbm, 121, rfl⟩
abbrev main_v75 : Ref sig .tc := ⟨.hbm, 122, rfl⟩
abbrev main_v76 : Ref sig .tc := ⟨.hbm, 123, rfl⟩
abbrev main_v77 : Ref sig .tc := ⟨.hbm, 124, rfl⟩
abbrev main_v78 : Ref sig .tc := ⟨.hbm, 125, rfl⟩
abbrev main_v79 : Ref sig .tc := ⟨.hbm, 126, rfl⟩
abbrev main_cst_24 : Ref sig .tc := ⟨.hbm, 127, rfl⟩
abbrev main_v80 : Ref sig .tc := ⟨.hbm, 128, rfl⟩
abbrev main_v81 : Ref sig .tc := ⟨.hbm, 129, rfl⟩
abbrev main_cst_25 : Ref sig .tc := ⟨.hbm, 130, rfl⟩
abbrev main_v82 : Ref sig .tc := ⟨.hbm, 131, rfl⟩
abbrev main_v83 : Ref sig .tc := ⟨.hbm, 132, rfl⟩
abbrev main_cst_26 : Ref sig .tc := ⟨.hbm, 133, rfl⟩
abbrev main_v84 : Ref sig .tc := ⟨.hbm, 134, rfl⟩
abbrev main_v85 : Ref sig .tc := ⟨.hbm, 135, rfl⟩
abbrev main_v86 : Ref sig .tc := ⟨.hbm, 136, rfl⟩
abbrev main_v87 : Ref sig .tc := ⟨.hbm, 137, rfl⟩
abbrev main_v88 : Ref sig .tc := ⟨.hbm, 138, rfl⟩
abbrev main_cst_27 : Ref sig .tc := ⟨.hbm, 139, rfl⟩
abbrev main_v89 : Ref sig .tc := ⟨.hbm, 140, rfl⟩
abbrev main_v90 : Ref sig .tc := ⟨.hbm, 141, rfl⟩
abbrev main_cst_28 : Ref sig .tc := ⟨.hbm, 142, rfl⟩
abbrev main_v91 : Ref sig .tc := ⟨.hbm, 143, rfl⟩
abbrev main_v92 : Ref sig .tc := ⟨.hbm, 144, rfl⟩
abbrev main_cst_29 : Ref sig .tc := ⟨.hbm, 145, rfl⟩
abbrev main_v93 : Ref sig .tc := ⟨.hbm, 146, rfl⟩
abbrev main_v94 : Ref sig .tc := ⟨.hbm, 147, rfl⟩
abbrev main_v95 : Ref sig .tc := ⟨.hbm, 148, rfl⟩
abbrev main_v96 : Ref sig .tc := ⟨.hbm, 149, rfl⟩
abbrev main_v97 : Ref sig .tc := ⟨.hbm, 150, rfl⟩
abbrev main_v98 : Ref sig .tc := ⟨.hbm, 151, rfl⟩
abbrev main_v99 : Ref sig .tc := ⟨.hbm, 152, rfl⟩
abbrev main_v100 : Ref sig .tc := ⟨.hbm, 153, rfl⟩
abbrev main_v101 : Ref sig .tc := ⟨.hbm, 154, rfl⟩
abbrev main_v102 : Ref sig .tc := ⟨.hbm, 155, rfl⟩
abbrev main_cst_30 : Ref sig .tc := ⟨.hbm, 156, rfl⟩
abbrev main_v103 : Ref sig .tc := ⟨.hbm, 157, rfl⟩
abbrev main_v104 : Ref sig .tc := ⟨.hbm, 158, rfl⟩
abbrev main_cst_31 : Ref sig .tc := ⟨.hbm, 159, rfl⟩
abbrev main_v105 : Ref sig .tc := ⟨.hbm, 160, rfl⟩
abbrev main_v106 : Ref sig .tc := ⟨.hbm, 161, rfl⟩
abbrev main_cst_32 : Ref sig .tc := ⟨.hbm, 162, rfl⟩
abbrev main_v107 : Ref sig .tc := ⟨.hbm, 163, rfl⟩
abbrev main_v108 : Ref sig .tc := ⟨.hbm, 164, rfl⟩
abbrev main_v109 : Ref sig .tc := ⟨.hbm, 165, rfl⟩
abbrev main_v110 : Ref sig .tc := ⟨.hbm, 166, rfl⟩
abbrev main_v111 : Ref sig .tc := ⟨.hbm, 167, rfl⟩
abbrev main_cst_33 : Ref sig .tc := ⟨.hbm, 168, rfl⟩
abbrev main_v112 : Ref sig .tc := ⟨.hbm, 169, rfl⟩
abbrev main_v113 : Ref sig .tc := ⟨.hbm, 170, rfl⟩
abbrev main_cst_34 : Ref sig .tc := ⟨.hbm, 171, rfl⟩
abbrev main_v114 : Ref sig .tc := ⟨.hbm, 172, rfl⟩
abbrev main_v115 : Ref sig .tc := ⟨.hbm, 173, rfl⟩
abbrev main_cst_35 : Ref sig .tc := ⟨.hbm, 174, rfl⟩
abbrev main_v116 : Ref sig .tc := ⟨.hbm, 175, rfl⟩
abbrev main_v117 : Ref sig .tc := ⟨.hbm, 176, rfl⟩
abbrev main_v118 : Ref sig .tc := ⟨.hbm, 177, rfl⟩
abbrev main_v119 : Ref sig .tc := ⟨.hbm, 178, rfl⟩
abbrev main_v120 : Ref sig .tc := ⟨.hbm, 179, rfl⟩
abbrev main_v121 : Ref sig .tc := ⟨.hbm, 180, rfl⟩
abbrev main_v122 : Ref sig .tc := ⟨.hbm, 181, rfl⟩
abbrev main_v123 : Ref sig .tc := ⟨.hbm, 182, rfl⟩
abbrev main_v124 : Ref sig .tc := ⟨.hbm, 183, rfl⟩
abbrev main_v125 : Ref sig .tc := ⟨.hbm, 184, rfl⟩
abbrev main_v126 : Ref sig .tc := ⟨.hbm, 185, rfl⟩
abbrev main_c_36 : Ref sig .tc := ⟨.hbm, 186, rfl⟩
abbrev main_v127 : Ref sig .tc := ⟨.hbm, 187, rfl⟩
abbrev main_v128 : Ref sig .tc := ⟨.hbm, 188, rfl⟩
abbrev main_c_37 : Ref sig .tc := ⟨.hbm, 189, rfl⟩
abbrev main_v129 : Ref sig .tc := ⟨.hbm, 190, rfl⟩
abbrev main_v130 : Ref sig .tc := ⟨.hbm, 191, rfl⟩
abbrev main_c_38 : Ref sig .tc := ⟨.hbm, 192, rfl⟩
abbrev main_v131 : Ref sig .tc := ⟨.hbm, 193, rfl⟩
abbrev main_v132 : Ref sig .tc := ⟨.hbm, 194, rfl⟩
abbrev main_c_39 : Ref sig .tc := ⟨.hbm, 195, rfl⟩
abbrev main_v133 : Ref sig .tc := ⟨.hbm, 196, rfl⟩
abbrev main_v134 : Ref sig .tc := ⟨.hbm, 197, rfl⟩
abbrev main_v135 : Ref sig .tc := ⟨.hbm, 198, rfl⟩
abbrev main_v136 : Ref sig .tc := ⟨.hbm, 199, rfl⟩
abbrev main_v137 : Ref sig .tc := ⟨.hbm, 200, rfl⟩
abbrev main_v138 : Ref sig .tc := ⟨.hbm, 201, rfl⟩
abbrev main_c_40 : Ref sig .tc := ⟨.hbm, 202, rfl⟩
abbrev main_c_41 : Ref sig .tc := ⟨.hbm, 203, rfl⟩
abbrev main_call5_v0 : Ref sig .tc := ⟨.hbm, 204, rfl⟩
abbrev main_call5_v1 : Ref sig .tc := ⟨.hbm, 205, rfl⟩
abbrev main_call5_v2 : Ref sig .tc := ⟨.hbm, 206, rfl⟩
abbrev main_call5_v3 : Ref sig .tc := ⟨.hbm, 207, rfl⟩
abbrev main_call5_v4 : Ref sig .tc := ⟨.hbm, 208, rfl⟩
abbrev main_v139 : Ref sig .tc := ⟨.hbm, 209, rfl⟩
abbrev main_v140 : Ref sig .tc := ⟨.hbm, 210, rfl⟩
abbrev main_v141 : Ref sig .tc := ⟨.hbm, 211, rfl⟩
abbrev main_v142 : Ref sig .tc := ⟨.hbm, 212, rfl⟩
abbrev main_v143 : Ref sig .tc := ⟨.hbm, 213, rfl⟩
abbrev main_c_42 : Ref sig .tc := ⟨.hbm, 214, rfl⟩
abbrev main_c_43 : Ref sig .tc := ⟨.hbm, 215, rfl⟩
abbrev main_call6_v0 : Ref sig .tc := ⟨.hbm, 216, rfl⟩
abbrev main_call6_v1 : Ref sig .tc := ⟨.hbm, 217, rfl⟩
abbrev main_call6_v2 : Ref sig .tc := ⟨.hbm, 218, rfl⟩
abbrev main_call6_v3 : Ref sig .tc := ⟨.hbm, 219, rfl⟩
abbrev main_call6_v4 : Ref sig .tc := ⟨.hbm, 220, rfl⟩
abbrev main_v144 : Ref sig .tc := ⟨.hbm, 221, rfl⟩
abbrev main_v145 : Ref sig .tc := ⟨.hbm, 222, rfl⟩
abbrev main_v146 : Ref sig .tc := ⟨.hbm, 223, rfl⟩
abbrev main_v147 : Ref sig .tc := ⟨.hbm, 224, rfl⟩
abbrev main_v148 : Ref sig .tc := ⟨.hbm, 225, rfl⟩
abbrev main_v149 : Ref sig .tc := ⟨.hbm, 226, rfl⟩
abbrev main_v150 : Ref sig .tc := ⟨.hbm, 227, rfl⟩
abbrev main_v151 : Ref sig .tc := ⟨.hbm, 228, rfl⟩
abbrev main_v152 : Ref sig .tc := ⟨.hbm, 229, rfl⟩
abbrev main_v153 : Ref sig .tc := ⟨.hbm, 230, rfl⟩
abbrev main_v154 : Ref sig .tc := ⟨.hbm, 231, rfl⟩
abbrev main_v155 : Ref sig .tc := ⟨.hbm, 232, rfl⟩
abbrev main_cst_44 : Ref sig .tc := ⟨.hbm, 233, rfl⟩
abbrev main_v156 : Ref sig .tc := ⟨.hbm, 234, rfl⟩
abbrev main_v157 : Ref sig .tc := ⟨.hbm, 235, rfl⟩
abbrev main_cst_45 : Ref sig .tc := ⟨.hbm, 236, rfl⟩
abbrev main_v158 : Ref sig .tc := ⟨.hbm, 237, rfl⟩
abbrev main_v159 : Ref sig .tc := ⟨.hbm, 238, rfl⟩
abbrev main_cst_46 : Ref sig .tc := ⟨.hbm, 239, rfl⟩
abbrev main_v160 : Ref sig .tc := ⟨.hbm, 240, rfl⟩
abbrev main_v161 : Ref sig .tc := ⟨.hbm, 241, rfl⟩
abbrev main_v162 : Ref sig .tc := ⟨.hbm, 242, rfl⟩
abbrev main_v163 : Ref sig .tc := ⟨.hbm, 243, rfl⟩
abbrev main_v164 : Ref sig .tc := ⟨.hbm, 244, rfl⟩
abbrev main_v165 : Ref sig .tc := ⟨.hbm, 245, rfl⟩
abbrev main_cst_47 : Ref sig .tc := ⟨.hbm, 246, rfl⟩
abbrev main_v166 : Ref sig .tc := ⟨.hbm, 247, rfl⟩
abbrev main_v167 : Ref sig .tc := ⟨.hbm, 248, rfl⟩
abbrev main_cst_48 : Ref sig .tc := ⟨.hbm, 249, rfl⟩
abbrev main_v168 : Ref sig .tc := ⟨.hbm, 250, rfl⟩
abbrev main_v169 : Ref sig .tc := ⟨.hbm, 251, rfl⟩
abbrev main_cst_49 : Ref sig .tc := ⟨.hbm, 252, rfl⟩
abbrev main_v170 : Ref sig .tc := ⟨.hbm, 253, rfl⟩
abbrev main_v171 : Ref sig .tc := ⟨.hbm, 254, rfl⟩
abbrev main_v172 : Ref sig .tc := ⟨.hbm, 255, rfl⟩
abbrev main_v173 : Ref sig .tc := ⟨.hbm, 256, rfl⟩
abbrev main_v174 : Ref sig .tc := ⟨.hbm, 257, rfl⟩
abbrev main_v175 : Ref sig .tc := ⟨.hbm, 258, rfl⟩
abbrev main_c_50 : Ref sig .tc := ⟨.hbm, 259, rfl⟩
abbrev main_v176 : Ref sig .tc := ⟨.hbm, 260, rfl⟩
abbrev main_v177 : Ref sig .tc := ⟨.hbm, 261, rfl⟩
abbrev main_v178 : Ref sig .tc := ⟨.hbm, 262, rfl⟩
abbrev main_c_51 : Ref sig .tc := ⟨.hbm, 263, rfl⟩
abbrev main_v179 : Ref sig .tc := ⟨.hbm, 264, rfl⟩
abbrev main_v180 : Ref sig .tc := ⟨.hbm, 265, rfl⟩
abbrev main_c_52 : Ref sig .tc := ⟨.hbm, 266, rfl⟩
abbrev main_v181 : Ref sig .tc := ⟨.hbm, 267, rfl⟩
abbrev main_v182 : Ref sig .tc := ⟨.hbm, 268, rfl⟩
abbrev main_v183 : Ref sig .tc := ⟨.hbm, 269, rfl⟩
abbrev main_v184 : Ref sig .tc := ⟨.hbm, 270, rfl⟩
abbrev main_v185 : Ref sig .tc := ⟨.hbm, 271, rfl⟩
abbrev main_cst_53 : Ref sig .tc := ⟨.hbm, 272, rfl⟩
abbrev main_v186 : Ref sig .tc := ⟨.hbm, 273, rfl⟩
abbrev main_v187 : Ref sig .tc := ⟨.hbm, 274, rfl⟩
abbrev main_v188 : Ref sig .tc := ⟨.hbm, 275, rfl⟩
abbrev main_v189 : Ref sig .tc := ⟨.hbm, 276, rfl⟩
abbrev main_c_54 : Ref sig .tc := ⟨.hbm, 277, rfl⟩
abbrev main_v190 : Ref sig .tc := ⟨.hbm, 278, rfl⟩
abbrev main_v191 : Ref sig .tc := ⟨.hbm, 279, rfl⟩
abbrev main_v192 : Ref sig .tc := ⟨.hbm, 280, rfl⟩
abbrev main_c_55 : Ref sig .tc := ⟨.hbm, 281, rfl⟩
abbrev main_v193 : Ref sig .tc := ⟨.hbm, 282, rfl⟩
abbrev main_v194 : Ref sig .tc := ⟨.hbm, 283, rfl⟩
abbrev main_c_56 : Ref sig .tc := ⟨.hbm, 284, rfl⟩
abbrev main_v195 : Ref sig .tc := ⟨.hbm, 285, rfl⟩
abbrev main_v196 : Ref sig .tc := ⟨.hbm, 286, rfl⟩
abbrev main_v197 : Ref sig .tc := ⟨.hbm, 287, rfl⟩
abbrev main_v198 : Ref sig .tc := ⟨.hbm, 288, rfl⟩
abbrev main_v199 : Ref sig .tc := ⟨.hbm, 289, rfl⟩
abbrev main_cst_57 : Ref sig .tc := ⟨.hbm, 290, rfl⟩
abbrev main_v200 : Ref sig .tc := ⟨.hbm, 291, rfl⟩
abbrev main_v201 : Ref sig .tc := ⟨.hbm, 292, rfl⟩
abbrev main_v202 : Ref sig .tc := ⟨.hbm, 293, rfl⟩
abbrev main_v203 : Ref sig .tc := ⟨.hbm, 294, rfl⟩
abbrev main_c_58 : Ref sig .tc := ⟨.hbm, 295, rfl⟩
abbrev main_v204 : Ref sig .tc := ⟨.hbm, 296, rfl⟩
abbrev main_v205 : Ref sig .tc := ⟨.hbm, 297, rfl⟩
abbrev main_v206 : Ref sig .tc := ⟨.hbm, 298, rfl⟩
abbrev main_c_59 : Ref sig .tc := ⟨.hbm, 299, rfl⟩
abbrev main_v207 : Ref sig .tc := ⟨.hbm, 300, rfl⟩
abbrev main_v208 : Ref sig .tc := ⟨.hbm, 301, rfl⟩
abbrev main_c_60 : Ref sig .tc := ⟨.hbm, 302, rfl⟩
abbrev main_v209 : Ref sig .tc := ⟨.hbm, 303, rfl⟩
abbrev main_v210 : Ref sig .tc := ⟨.hbm, 304, rfl⟩
abbrev main_v211 : Ref sig .tc := ⟨.hbm, 305, rfl⟩
abbrev main_v212 : Ref sig .tc := ⟨.hbm, 306, rfl⟩
abbrev main_v213 : Ref sig .tc := ⟨.hbm, 307, rfl⟩
abbrev main_v214 : Ref sig .tc := ⟨.hbm, 308, rfl⟩
abbrev main_v215 : Ref sig .tc := ⟨.hbm, 309, rfl⟩
abbrev main_c_61 : Ref sig .tc := ⟨.hbm, 310, rfl⟩
abbrev main_v216 : Ref sig .tc := ⟨.hbm, 311, rfl⟩
abbrev main_v217 : Ref sig .tc := ⟨.hbm, 312, rfl⟩
abbrev main_v218 : Ref sig .tc := ⟨.hbm, 313, rfl⟩
abbrev main_c_62 : Ref sig .tc := ⟨.hbm, 314, rfl⟩
abbrev main_v219 : Ref sig .tc := ⟨.hbm, 315, rfl⟩
abbrev main_v220 : Ref sig .tc := ⟨.hbm, 316, rfl⟩
abbrev main_c_63 : Ref sig .tc := ⟨.hbm, 317, rfl⟩
abbrev main_v221 : Ref sig .tc := ⟨.hbm, 318, rfl⟩
abbrev main_v222 : Ref sig .tc := ⟨.hbm, 319, rfl⟩
abbrev main_v223 : Ref sig .tc := ⟨.hbm, 320, rfl⟩
abbrev main_v224 : Ref sig .tc := ⟨.hbm, 321, rfl⟩
abbrev main_v225 : Ref sig .tc := ⟨.hbm, 322, rfl⟩
abbrev main_cst_64 : Ref sig .tc := ⟨.hbm, 323, rfl⟩
abbrev main_v226 : Ref sig .tc := ⟨.hbm, 324, rfl⟩
abbrev main_v227 : Ref sig .tc := ⟨.hbm, 325, rfl⟩
abbrev main_v228 : Ref sig .tc := ⟨.hbm, 326, rfl⟩
abbrev main_v229 : Ref sig .tc := ⟨.hbm, 327, rfl⟩
abbrev main_v230 : Ref sig .tc := ⟨.hbm, 328, rfl⟩
abbrev main_v231 : Ref sig .tc := ⟨.hbm, 329, rfl⟩
abbrev main_v232 : Ref sig .tc := ⟨.hbm, 330, rfl⟩
abbrev main_v233 : Ref sig .tc := ⟨.hbm, 331, rfl⟩
abbrev main_v234 : Ref sig .tc := ⟨.hbm, 332, rfl⟩
abbrev main_v235 : Ref sig .tc := ⟨.hbm, 333, rfl⟩
abbrev main_cst_65 : Ref sig .tc := ⟨.hbm, 334, rfl⟩
abbrev main_v236 : Ref sig .tc := ⟨.hbm, 335, rfl⟩
abbrev main_v237 : Ref sig .tc := ⟨.hbm, 336, rfl⟩
abbrev main_cst_66 : Ref sig .tc := ⟨.hbm, 337, rfl⟩
abbrev main_v238 : Ref sig .tc := ⟨.hbm, 338, rfl⟩
abbrev main_v239 : Ref sig .tc := ⟨.hbm, 339, rfl⟩
abbrev main_v240 : Ref sig .tc := ⟨.hbm, 340, rfl⟩
abbrev main_v241 : Ref sig .tc := ⟨.hbm, 341, rfl⟩
abbrev main_v242 : Ref sig .tc := ⟨.hbm, 342, rfl⟩
abbrev main_v243 : Ref sig .tc := ⟨.hbm, 343, rfl⟩
abbrev main_v244 : Ref sig .tc := ⟨.hbm, 344, rfl⟩
abbrev main_v245 : Ref sig .tc := ⟨.hbm, 345, rfl⟩
abbrev main_v246 : Ref sig .tc := ⟨.hbm, 346, rfl⟩
abbrev main_cst_67 : Ref sig .tc := ⟨.hbm, 347, rfl⟩
abbrev main_v247 : Ref sig .tc := ⟨.hbm, 348, rfl⟩
abbrev main_v248 : Ref sig .tc := ⟨.hbm, 349, rfl⟩
abbrev main_cst_68 : Ref sig .tc := ⟨.hbm, 350, rfl⟩
abbrev main_v249 : Ref sig .tc := ⟨.hbm, 351, rfl⟩
abbrev main_v250 : Ref sig .tc := ⟨.hbm, 352, rfl⟩
abbrev main_v251 : Ref sig .tc := ⟨.hbm, 353, rfl⟩
abbrev main_v252 : Ref sig .tc := ⟨.hbm, 354, rfl⟩
abbrev main_v253 : Ref sig .tc := ⟨.hbm, 355, rfl⟩
abbrev main_v254 : Ref sig .tc := ⟨.hbm, 356, rfl⟩
abbrev main_v255 : Ref sig .tc := ⟨.hbm, 357, rfl⟩
abbrev main_v256 : Ref sig .tc := ⟨.hbm, 358, rfl⟩
abbrev main_c_69 : Ref sig .tc := ⟨.hbm, 359, rfl⟩
abbrev main_v257 : Ref sig .tc := ⟨.hbm, 360, rfl⟩
abbrev main_v258 : Ref sig .tc := ⟨.hbm, 361, rfl⟩
abbrev main_v259 : Ref sig .tc := ⟨.hbm, 362, rfl⟩
abbrev main_c_70 : Ref sig .tc := ⟨.hbm, 363, rfl⟩
abbrev main_v260 : Ref sig .tc := ⟨.hbm, 364, rfl⟩
abbrev main_v261 : Ref sig .tc := ⟨.hbm, 365, rfl⟩
abbrev main_c_71 : Ref sig .tc := ⟨.hbm, 366, rfl⟩
abbrev main_v262 : Ref sig .tc := ⟨.hbm, 367, rfl⟩
abbrev main_v263 : Ref sig .tc := ⟨.hbm, 368, rfl⟩
abbrev main_v264 : Ref sig .tc := ⟨.hbm, 369, rfl⟩
abbrev main_v265 : Ref sig .tc := ⟨.hbm, 370, rfl⟩
abbrev main_v266 : Ref sig .tc := ⟨.hbm, 371, rfl⟩
abbrev main_v267 : Ref sig .tc := ⟨.hbm, 372, rfl⟩
abbrev main_v268 : Ref sig .tc := ⟨.hbm, 373, rfl⟩
abbrev main_v269 : Ref sig .tc := ⟨.hbm, 374, rfl⟩
abbrev main_cst_72 : Ref sig .tc := ⟨.hbm, 375, rfl⟩
abbrev main_v270 : Ref sig .tc := ⟨.hbm, 376, rfl⟩
abbrev main_v271 : Ref sig .tc := ⟨.hbm, 377, rfl⟩
abbrev main_v272 : Ref sig .tc := ⟨.hbm, 378, rfl⟩
abbrev main_v273 : Ref sig .tc := ⟨.hbm, 379, rfl⟩
abbrev main_v274 : Ref sig .tc := ⟨.hbm, 380, rfl⟩
abbrev main_v275 : Ref sig .tc := ⟨.hbm, 381, rfl⟩
abbrev main_c_73 : Ref sig .tc := ⟨.hbm, 382, rfl⟩
abbrev main_v276 : Ref sig .tc := ⟨.hbm, 383, rfl⟩
abbrev main_v277 : Ref sig .tc := ⟨.hbm, 384, rfl⟩
abbrev main_v278 : Ref sig .tc := ⟨.hbm, 385, rfl⟩
abbrev main_c_74 : Ref sig .tc := ⟨.hbm, 386, rfl⟩
abbrev main_v279 : Ref sig .tc := ⟨.hbm, 387, rfl⟩
abbrev main_v280 : Ref sig .tc := ⟨.hbm, 388, rfl⟩
abbrev main_c_75 : Ref sig .tc := ⟨.hbm, 389, rfl⟩
abbrev main_v281 : Ref sig .tc := ⟨.hbm, 390, rfl⟩
abbrev main_v282 : Ref sig .tc := ⟨.hbm, 391, rfl⟩
abbrev main_v283 : Ref sig .tc := ⟨.hbm, 392, rfl⟩
abbrev main_v284 : Ref sig .tc := ⟨.hbm, 393, rfl⟩
abbrev main_v285 : Ref sig .tc := ⟨.hbm, 394, rfl⟩
abbrev main_v286 : Ref sig .tc := ⟨.hbm, 395, rfl⟩
abbrev main_v287 : Ref sig .tc := ⟨.hbm, 396, rfl⟩
abbrev main_v288 : Ref sig .tc := ⟨.hbm, 397, rfl⟩
abbrev main_v289 : Ref sig .tc := ⟨.hbm, 398, rfl⟩
abbrev main_v290 : Ref sig .tc := ⟨.hbm, 399, rfl⟩
abbrev main_v291 : Ref sig .tc := ⟨.hbm, 400, rfl⟩
abbrev main_v292 : Ref sig .tc := ⟨.hbm, 401, rfl⟩
abbrev main_v293 : Ref sig .tc := ⟨.hbm, 402, rfl⟩
abbrev main_c_76 : Ref sig .tc := ⟨.hbm, 403, rfl⟩
abbrev main_v294 : Ref sig .tc := ⟨.hbm, 404, rfl⟩
abbrev main_v295 : Ref sig .tc := ⟨.hbm, 405, rfl⟩
abbrev main_v296 : Ref sig .tc := ⟨.hbm, 406, rfl⟩
abbrev main_c_77 : Ref sig .tc := ⟨.hbm, 407, rfl⟩
abbrev main_v297 : Ref sig .tc := ⟨.hbm, 408, rfl⟩
abbrev main_v298 : Ref sig .tc := ⟨.hbm, 409, rfl⟩
abbrev main_c_78 : Ref sig .tc := ⟨.hbm, 410, rfl⟩
abbrev main_v299 : Ref sig .tc := ⟨.hbm, 411, rfl⟩
abbrev main_v300 : Ref sig .tc := ⟨.hbm, 412, rfl⟩
abbrev main_v301 : Ref sig .tc := ⟨.hbm, 413, rfl⟩
abbrev main_v302 : Ref sig .tc := ⟨.hbm, 414, rfl⟩
abbrev main_v303 : Ref sig .tc := ⟨.hbm, 415, rfl⟩
abbrev main_v304 : Ref sig .tc := ⟨.hbm, 416, rfl⟩
abbrev main_v305 : Ref sig .tc := ⟨.hbm, 417, rfl⟩
abbrev main_v306 : Ref sig .tc := ⟨.hbm, 418, rfl⟩
abbrev main_v307 : Ref sig .tc := ⟨.hbm, 419, rfl⟩
abbrev main_v308 : Ref sig .tc := ⟨.hbm, 420, rfl⟩
abbrev main_cst_79 : Ref sig .tc := ⟨.hbm, 421, rfl⟩
abbrev main_v309 : Ref sig .tc := ⟨.hbm, 422, rfl⟩
abbrev main_v310 : Ref sig .tc := ⟨.hbm, 423, rfl⟩
abbrev main_cst_80 : Ref sig .tc := ⟨.hbm, 424, rfl⟩
abbrev main_v311 : Ref sig .tc := ⟨.hbm, 425, rfl⟩
abbrev main_v312 : Ref sig .tc := ⟨.hbm, 426, rfl⟩
abbrev main_v313 : Ref sig .tc := ⟨.hbm, 427, rfl⟩
abbrev main_v314 : Ref sig .tc := ⟨.hbm, 428, rfl⟩
abbrev main_cst_81 : Ref sig .tc := ⟨.hbm, 429, rfl⟩
abbrev main_call7_v0 : Ref sig .tc := ⟨.hbm, 430, rfl⟩
abbrev main_call7_v1 : Ref sig .tc := ⟨.hbm, 431, rfl⟩
abbrev main_v315 : Ref sig .tc := ⟨.hbm, 432, rfl⟩
abbrev main_cst_82 : Ref sig .tc := ⟨.hbm, 433, rfl⟩
abbrev main_v316 : Ref sig .tc := ⟨.hbm, 434, rfl⟩
abbrev main_cst_83 : Ref sig .tc := ⟨.hbm, 435, rfl⟩
abbrev main_v317 : Ref sig .tc := ⟨.hbm, 436, rfl⟩
abbrev main_v318 : Ref sig .tc := ⟨.hbm, 437, rfl⟩
abbrev main_v319 : Ref sig .tc := ⟨.hbm, 438, rfl⟩
abbrev main_v320 : Ref sig .tc := ⟨.hbm, 439, rfl⟩
abbrev main_v321 : Ref sig .tc := ⟨.hbm, 440, rfl⟩
abbrev main_v322 : Ref sig .tc := ⟨.hbm, 441, rfl⟩
abbrev main_cst_84 : Ref sig .tc := ⟨.hbm, 442, rfl⟩
abbrev main_call8_v0 : Ref sig .tc := ⟨.hbm, 443, rfl⟩
abbrev main_call8_v1 : Ref sig .tc := ⟨.hbm, 444, rfl⟩
abbrev main_v323 : Ref sig .tc := ⟨.hbm, 445, rfl⟩
abbrev main_cst_85 : Ref sig .tc := ⟨.hbm, 446, rfl⟩
abbrev main_v324 : Ref sig .tc := ⟨.hbm, 447, rfl⟩
abbrev main_c_86 : Ref sig .tc := ⟨.hbm, 448, rfl⟩
abbrev main_v325 : Ref sig .tc := ⟨.hbm, 449, rfl⟩
abbrev main_v326 : Ref sig .tc := ⟨.hbm, 450, rfl⟩
abbrev main_v327 : Ref sig .tc := ⟨.hbm, 451, rfl⟩
abbrev main_c_87 : Ref sig .tc := ⟨.hbm, 452, rfl⟩
abbrev main_v328 : Ref sig .tc := ⟨.hbm, 453, rfl⟩
abbrev main_v329 : Ref sig .tc := ⟨.hbm, 454, rfl⟩
abbrev main_c_88 : Ref sig .tc := ⟨.hbm, 455, rfl⟩
abbrev main_v330 : Ref sig .tc := ⟨.hbm, 456, rfl⟩
abbrev main_v331 : Ref sig .tc := ⟨.hbm, 457, rfl⟩
abbrev main_v332 : Ref sig .tc := ⟨.hbm, 458, rfl⟩
abbrev main_v333 : Ref sig .tc := ⟨.hbm, 459, rfl⟩
abbrev main_v334 : Ref sig .tc := ⟨.hbm, 460, rfl⟩
abbrev main_v335 : Ref sig .tc := ⟨.hbm, 461, rfl⟩
abbrev main_v336 : Ref sig .tc := ⟨.hbm, 462, rfl⟩
abbrev main_v337 : Ref sig .tc := ⟨.hbm, 463, rfl⟩
abbrev main_cst_89 : Ref sig .tc := ⟨.hbm, 464, rfl⟩
abbrev main_v338 : Ref sig .tc := ⟨.hbm, 465, rfl⟩
abbrev main_v339 : Ref sig .tc := ⟨.hbm, 466, rfl⟩
abbrev main_cst_90 : Ref sig .tc := ⟨.hbm, 467, rfl⟩
abbrev main_v340 : Ref sig .tc := ⟨.hbm, 468, rfl⟩
abbrev main_v341 : Ref sig .tc := ⟨.hbm, 469, rfl⟩
abbrev main_v342 : Ref sig .tc := ⟨.hbm, 470, rfl⟩
abbrev main_v343 : Ref sig .tc := ⟨.hbm, 471, rfl⟩
abbrev main_v344 : Ref sig .tc := ⟨.hbm, 472, rfl⟩
abbrev main_v345 : Ref sig .tc := ⟨.hbm, 473, rfl⟩

abbrev nD : Nat := 1
abbrev τ : Topo := Topo.v7x

variable {F : FTy → Type} [FloatOps F]
-- ==== Proof.Spec.lean ====
/- The window of a pixel in whole numbers: which cell an offset leads to, and which of the window's 49 offsets the kernel keeps. -/
module

public import Idealize.ShloMosaic.PureOps.Ideal

@[expose] public section

noncomputable section

namespace Cert.Spec

open Idealize.ShloMosaic

/-- The row (or column) that lies `d - 3` from row `a`, kept inside the grid. -/
def clampC (a : Fin 14) (d : Fin 7) : Fin 14 := ⟨min 13 (a.val + d.val - 3), by omega⟩

/-- The row part of offset `n`, less three. -/
def dyF (n : Fin 49) : Fin 7 := ⟨n.val / 7, by omega⟩

/-- The column part of offset `n`, less three. -/
def dxF (n : Fin 49) : Fin 7 := ⟨n.val % 7, by omega⟩

/-- The square of offset `n`'s length. -/
def dist2 (n : Fin 49) : ℤ := ((dyF n).val - 3 : ℤ) ^ 2 + ((dxF n).val - 3 : ℤ) ^ 2

/-- The 29 offsets inside the largest disc, in the order in which the kernel keeps them. -/
def offs : Fin 29 → Fin 49 :=
  ![3, 8, 9, 10, 11, 12, 15, 16, 17, 18, 19, 21, 22, 23, 24, 25, 26, 27, 29, 30, 31, 32, 33, 36, 37, 38, 39, 40, 45]

/-- The table row of cell column `b` and kept offset `k`. -/
def row (b : Fin 14) (k : Fin 29) : Fin 406 := ⟨b.val * 29 + k.val, by omega⟩

/-- The number of the cell in row `u` and column `v`. -/
def cell (u v : Fin 14) : Fin 196 := ⟨u.val * 14 + v.val, by omega⟩

/-- The output row (or column) at place `y` of cell row `a`. -/
def pix (a : Fin 14) (y : Fin 16) : Fin 224 := ⟨a.val * 16 + y.val, by omega⟩

/-- The place in its cell of the pixel at row `y` and column `x` of the cell. -/
def lane (y x : Fin 16) : Fin 256 := ⟨y.val * 16 + x.val, by omega⟩

theorem offs_injective : Function.Injective offs := by
  intro a b; revert a b; decide +kernel

/-- An offset that the kernel leaves out is further than three. -/
theorem dist2_of_not_mem : ∀ n : Fin 49, (∀ k, offs k ≠ n) → 9 < dist2 n := by
  unfold dist2; decide +kernel

end Cert.Spec

end
-- ==== Proof.Nums.lean ====
/- The float constants that the two programs spell, as the extended reals that their patterns denote. -/
module

public import Idealize.ShloMosaic.PureOps.Ideal

@[expose] public section

noncomputable section

namespace Cert.Nums

open Idealize.ShloMosaic

theorem one : Ideal.ofBits .f32 0x3F800000#32 = ((1 : ℝ) : EReal) := by
  simp [Ideal.ofBits, Ideal.ieee, -EReal.coe_mul]; norm_num
theorem quarter : Ideal.ofBits .f32 0x3E800000#32 = ((1 / 4 : ℝ) : EReal) := by
  simp [Ideal.ofBits, Ideal.ieee, -EReal.coe_mul]; norm_num
theorem half : Ideal.ofBits .f32 0x3F000000#32 = ((1 / 2 : ℝ) : EReal) := by
  simp [Ideal.ofBits, Ideal.ieee, -EReal.coe_mul]; norm_num
theorem sixteenth : Ideal.ofBits .f32 0x3D800000#32 = ((1 / 16 : ℝ) : EReal) := by
  simp [Ideal.ofBits, Ideal.ieee, -EReal.coe_mul]; norm_num
theorem two : Ideal.ofBits .f32 0x40000000#32 = ((2 : ℝ) : EReal) := by
  simp [Ideal.ofBits, Ideal.ieee, -EReal.coe_mul]; norm_num
theorem three : Ideal.ofBits .f32 0x40400000#32 = ((3 : ℝ) : EReal) := by
  simp [Ideal.ofBits, Ideal.ieee, -EReal.coe_mul]; norm_num
theorem four : Ideal.ofBits .f32 0x40800000#32 = ((4 : ℝ) : EReal) := by
  simp [Ideal.ofBits, Ideal.ieee, -EReal.coe_mul]; norm_num
theorem five : Ideal.ofBits .f32 0x40A00000#32 = ((5 : ℝ) : EReal) := by
  simp [Ideal.ofBits, Ideal.ieee, -EReal.coe_mul]; norm_num
theorem six : Ideal.ofBits .f32 0x40C00000#32 = ((6 : ℝ) : EReal) := by
  simp [Ideal.ofBits, Ideal.ieee, -EReal.coe_mul]; norm_num
theorem seven : Ideal.ofBits .f32 0x40E00000#32 = ((7 : ℝ) : EReal) := by
  simp [Ideal.ofBits, Ideal.ieee, -EReal.coe_mul]; norm_num
theorem eight : Ideal.ofBits .f32 0x41000000#32 = ((8 : ℝ) : EReal) := by
  simp [Ideal.ofBits, Ideal.ieee, -EReal.coe_mul]; norm_num
theorem nine : Ideal.ofBits .f32 0x41100000#32 = ((9 : ℝ) : EReal) := by
  simp [Ideal.ofBits, Ideal.ieee, -EReal.coe_mul]; norm_num
theorem ten : Ideal.ofBits .f32 0x41200000#32 = ((10 : ℝ) : EReal) := by
  simp [Ideal.ofBits, Ideal.ieee, -EReal.coe_mul]; norm_num
theorem eleven : Ideal.ofBits .f32 0x41300000#32 = ((11 : ℝ) : EReal) := by
  simp [Ideal.ofBits, Ideal.ieee, -EReal.coe_mul]; norm_num
theorem twelve : Ideal.ofBits .f32 0x41400000#32 = ((12 : ℝ) : EReal) := by
  simp [Ideal.ofBits, Ideal.ieee, -EReal.coe_mul]; norm_num
theorem thirteen : Ideal.ofBits .f32 0x41500000#32 = ((13 : ℝ) : EReal) := by
  simp [Ideal.ofBits, Ideal.ieee, -EReal.coe_mul]; norm_num
theorem fourteen : Ideal.ofBits .f32 0x41600000#32 = ((14 : ℝ) : EReal) := by
  simp [Ideal.ofBits, Ideal.ieee, -EReal.coe_mul]; norm_num
theorem sixteen : Ideal.ofBits .f32 0x41800000#32 = ((16 : ℝ) : EReal) := by
  simp [Ideal.ofBits, Ideal.ieee, -EReal.coe_mul]; norm_num
theorem thirtytwo : Ideal.ofBits .f32 0x42000000#32 = ((32 : ℝ) : EReal) := by
  simp [Ideal.ofBits, Ideal.ieee, -EReal.coe_mul]; norm_num
theorem sevenhalf : Ideal.ofBits .f32 0x40F00000#32 = ((15 / 2 : ℝ) : EReal) := by
  simp [Ideal.ofBits, Ideal.ieee, -EReal.coe_mul]; norm_num
theorem fivetwelve : Ideal.ofBits .f32 0x44000000#32 = ((512 : ℝ) : EReal) := by
  simp [Ideal.ofBits, Ideal.ieee, -EReal.coe_mul]; norm_num
theorem negone : Ideal.ofBits .f32 0xBF800000#32 = ((-1 : ℝ) : EReal) := by
  simp [Ideal.ofBits, Ideal.ieee, -EReal.coe_mul]; norm_num
theorem negtwo : Ideal.ofBits .f32 0xC0000000#32 = ((-2 : ℝ) : EReal) := by
  simp [Ideal.ofBits, Ideal.ieee, -EReal.coe_mul]; norm_num
theorem negthree : Ideal.ofBits .f32 0xC0400000#32 = ((-3 : ℝ) : EReal) := by
  simp [Ideal.ofBits, Ideal.ieee, -EReal.coe_mul]; norm_num
theorem neg256 : Ideal.ofBits .f32 0xC3800000#32 = ((-256 : ℝ) : EReal) := by
  simp [Ideal.ofBits, Ideal.ieee, -EReal.coe_mul]; norm_num
theorem neginf : Ideal.ofBits .f32 0xFF800000#32 = (⊥ : EReal) := by
  simp [Ideal.ofBits, Ideal.ieee]

/-- The nearest single-precision number to the half turn. -/
def piR : ℝ := 13176795 / 4194304
theorem pi : Ideal.ofBits .f32 0x40490FDB#32 = ((piR : ℝ) : EReal) := by
  simp [Ideal.ofBits, Ideal.ieee, -EReal.coe_mul, piR]; norm_num

/-- The single-precision number next to a millionth. -/
def e6 : ℝ := 8796093 / 8796093022208
theorem micro : Ideal.ofBits .f32 0x358637BD#32 = ((e6 : ℝ) : EReal) := by
  simp [Ideal.ofBits, Ideal.ieee, -EReal.coe_mul, e6]; norm_num
theorem e6_pos : 0 < e6 := by unfold e6; norm_num

/-- The single-precision number next to a hundred-millionth. -/
def e8 : ℝ := 11258999 / 1125899906842624
theorem nano : Ideal.ofBits .f32 0x322BCC77#32 = ((e8 : ℝ) : EReal) := by
  simp [Ideal.ofBits, Ideal.ieee, -EReal.coe_mul, e8]; norm_num
theorem e8_pos : 0 < e8 := by unfold e8; norm_num

end Cert.Nums

end
-- ==== Proof.Tables.lean ====
/- What the kernel's two tables of constants hold: for every cell column and every kept offset, its parts and the penalty it
takes. -/
module

public import proofs.«01_k».proof.KernelIdeal
public import proofs.«01_k».proof.Proof.Gen.KernelIdeal
public import proofs.«01_k».proof.Proof.Spec
public import proofs.«01_k».proof.Proof.Nums
public import Idealize.ShloMosaic.Lib.Pointwise

@[expose] public section

set_option maxRecDepth 16384

noncomputable section

namespace Cert.KernelIdeal.Value

open Idealize.ShloMosaic Cert.Spec
open Cert.KernelIdeal

theorem lit0_dy : ∀ (b : Fin 14) (k : Fin 29),
    lit0 (S406x4.rowMajor (ix2 (row b k) 0)) = BitVec.ofNat 32 (dyF (offs k)).val - 3#32 := by decide +kernel
theorem lit0_dx : ∀ (b : Fin 14) (k : Fin 29),
    lit0 (S406x4.rowMajor (ix2 (row b k) 1)) = BitVec.ofNat 32 (dxF (offs k)).val - 3#32 := by decide +kernel
theorem lit0_b : ∀ (b : Fin 14) (k : Fin 29),
    lit0 (S406x4.rowMajor (ix2 (row b k) 2)) = BitVec.ofNat 32 b.val := by decide +kernel

/-- The single-precision patterns of `-3` to `3`. -/
def bitsD : Fin 7 → BitVec 32 := ![0xC0400000#32, 0xC0000000#32, 0xBF800000#32, 0#32, 0x3F800000#32, 0x40000000#32, 0x40400000#32]

/-- The single-precision patterns of `0` to `13`. -/
def bitsC : Fin 14 → BitVec 32 := ![0#32, 0x3F800000#32, 0x40000000#32, 0x40400000#32, 0x40800000#32, 0x40A00000#32, 0x40C00000#32,
  0x40E00000#32, 0x41000000#32, 0x41100000#32, 0x41200000#32, 0x41300000#32, 0x41400000#32, 0x41500000#32]

theorem lit1_dy : ∀ (b : Fin 14) (k : Fin 29), lit1 (S5x406.rowMajor (ix2 0 (row b k))) = bitsD (dyF (offs k)) := by decide +kernel
theorem lit1_dx : ∀ (b : Fin 14) (k : Fin 29), lit1 (S5x406.rowMajor (ix2 1 (row b k))) = bitsD (dxF (offs k)) := by decide +kernel
theorem lit1_b : ∀ (b : Fin 14) (k : Fin 29), lit1 (S5x406.rowMajor (ix2 2 (row b k))) = bitsC b := by decide +kernel
theorem lit1_two : ∀ (b : Fin 14) (k : Fin 29), lit1 (S5x406.rowMajor (ix2 3 (row b k)))
    = if 1 < dist2 (offs k) ∧ dist2 (offs k) ≤ 4 then 0x3F800000#32 else 0#32 := by decide +kernel
theorem lit1_three : ∀ (b : Fin 14) (k : Fin 29), lit1 (S5x406.rowMajor (ix2 4 (row b k)))
    = if 4 < dist2 (offs k) then 0x3F800000#32 else 0#32 := by decide +kernel

theorem bitsD_eq (d : Fin 7) : Ideal.ofBits .f32 (bitsD d) = (((d.val : ℝ) - 3 : ℝ) : EReal) := by
  fin_cases d
  · exact Nums.negthree.trans (by norm_num)
  · exact Nums.negtwo.trans (by norm_num)
  · exact Nums.negone.trans (by norm_num)
  · exact (Ideal.ofBits_zero_f32).trans (by norm_num)
  · exact Nums.one.trans (by norm_num)
  · exact Nums.two.trans (by norm_num)
  · exact Nums.three.trans (by norm_num)

theorem bitsC_eq (b : Fin 14) : Ideal.ofBits .f32 (bitsC b) = ((b.val : ℝ) : EReal) := by
  fin_cases b
  · exact (Ideal.ofBits_zero_f32).trans (by norm_num)
  · exact Nums.one.trans (by norm_num)
  · exact Nums.two.trans (by norm_num)
  · exact Nums.three.trans (by norm_num)
  · exact Nums.four.trans (by norm_num)
  · exact Nums.five.trans (by norm_num)
  · exact Nums.six.trans (by norm_num)
  · exact Nums.seven.trans (by norm_num)
  · exact Nums.eight.trans (by norm_num)
  · exact Nums.nine.trans (by norm_num)
  · exact Nums.ten.trans (by norm_num)
  · exact Nums.eleven.trans (by norm_num)
  · exact Nums.twelve.trans (by norm_num)
  · exact Nums.thirteen.trans (by norm_num)

end Cert.KernelIdeal.Value

end
-- ==== Proof.Words.lean ====
/- Whole numbers carried by words and by floats: the clamped cell of an offset, and the sums against a row of an identity matrix. -/
module

public import Idealize.ShloMosaic.PureOps.Ideal
public import Idealize.ShloMosaic.PureOps.Ideal.Laws
public import proofs.«01_k».proof.Proof.Spec
public import proofs.«01_k».proof.Proof.Nums

@[expose] public section

set_option maxRecDepth 16384

noncomputable section

namespace Cert.Spec

open Idealize.ShloMosaic

theorem coe_max (x y : ℝ) : max (x : EReal) (y : EReal) = ((max x y : ℝ) : EReal) :=
  (EReal.coe_strictMono.monotone.map_max).symm
theorem coe_min (x y : ℝ) : min (x : EReal) (y : EReal) = ((min x y : ℝ) : EReal) :=
  (EReal.coe_strictMono.monotone.map_min).symm

/-- A small number's word, read as a float, is the number. -/
theorem sitofp_nat (n : ℕ) (h : n < 2 ^ 31) : FloatOps.sitofp (F := Ideal) .f32 (BitVec.ofNat 32 n) = ((n : ℝ) : EReal) := by
  show (((BitVec.ofNat 32 n).toInt : ℝ) : EReal) = _
  have e : (BitVec.ofNat 32 n).toNat = n := by simp; omega
  rw [BitVec.toInt_eq_toNat_of_lt (by rw [e]; omega), e]; simp

/-- A decided condition, as a word and then a float, is one or zero. -/
theorem sitofp_bool (p : Prop) [Decidable p] :
    FloatOps.sitofp (F := Ideal) .f32 (BitVec.setWidth 32 (BitVec.ofBool (decide p))) = if p then (1 : EReal) else 0 := by
  show (((BitVec.setWidth 32 (BitVec.ofBool (decide p))).toInt : ℝ) : EReal) = _
  by_cases h : p <;> simp [h]

/-- The row of an offset, in words. -/
theorem clamp_word : ∀ (a : Fin 14) (d : Fin 7), IntOp.minsi 13#32 (IntOp.maxsi 0#32
    (IntOp.addi (BitVec.ofNat 32 a.val) (BitVec.ofNat 32 d.val - 3#32))) = BitVec.ofNat 32 (clampC a d).val := by decide +kernel

/-- The number of a cell, in words. -/
theorem cell_word : ∀ u v : Fin 14, IntOp.addi (IntOp.muli (BitVec.ofNat 32 u.val) 14#32) (BitVec.ofNat 32 v.val)
    = BitVec.ofNat 32 (cell u v).val := by decide +kernel

/-- The row of an offset, in floats. -/
theorem clamp_real (a : Fin 14) (d : Fin 7) : min ((13 : ℝ) : EReal) (max 0 (((a.val : ℝ) : EReal) + (((d.val : ℝ) - 3 : ℝ) : EReal)))
    = (((clampC a d).val : ℝ) : EReal) := by
  rw [← EReal.coe_add, ← EReal.coe_zero, coe_max, coe_min]
  congr 1
  have hv : (clampC a d).val = min 13 (a.val + d.val - 3) := rfl
  rcases le_total 3 (a.val + d.val) with h | h
  · have : ((a.val + d.val - 3 : ℕ) : ℝ) = (a.val : ℝ) + (d.val : ℝ) - 3 := by push_cast [Nat.cast_sub h]; ring
    rw [hv, Nat.cast_min, this, max_eq_right (by have : (3 : ℝ) ≤ (a.val : ℝ) + d.val := by exact_mod_cast h
                                                 linarith)]
    norm_num; congr 1; ring
  · have h' : (a.val : ℝ) + d.val ≤ 3 := by exact_mod_cast h
    rw [hv, max_eq_left (by linarith), show a.val + d.val - 3 = 0 by omega]; simp

/-- The number of a cell, in floats. -/
theorem cell_real (u v : Fin 14) : ((u.val : ℝ) : EReal) * ((14 : ℝ) : EReal) + ((v.val : ℝ) : EReal) = (((cell u v).val : ℝ) : EReal) := by
  rw [← EReal.coe_mul, ← EReal.coe_add]; congr 1; simp [cell]

/-- A sum against a row of an identity matrix, on the right. -/
theorem sum_pick (f : Fin 196 → EReal) (q : Fin 196) : ∑ x, f x * (if x = q then (1 : EReal) else 0) = f q := by
  rw [Finset.sum_eq_single q] <;> simp +contextual

/-- A sum against a row of an identity matrix, on the left. -/
theorem sum_pick' (f : Fin 196 → EReal) (q : Fin 196) : ∑ x, (if x = q then (1 : EReal) else 0) * f x = f q := by
  rw [Finset.sum_eq_single q] <;> simp +contextual

/-- The float test for a column's number. -/
theorem pick_real (x q : Fin 196) : (FloatOps.sitofp (F := Ideal) .f32 (BitVec.ofNat 32 x.val) = ((q.val : ℝ) : EReal)) ↔ x = q := by
  rw [sitofp_nat _ (by omega)]
  constructor
  · intro h; exact Fin.ext (by exact_mod_cast EReal.coe_injective h)
  · rintro rfl; rfl

/-- The word test for a column's number. -/
theorem pick_word (x q : Fin 196) : IntOp.cmpi .eq (BitVec.ofNat 32 x.val) (BitVec.ofNat 32 q.val) = BitVec.ofBool (decide (x = q)) := by
  show BitVec.ofBool (BitVec.ofNat 32 x.val == BitVec.ofNat 32 q.val) = _
  congr 1
  rw [beq_eq_decide]
  refine decide_eq_decide.2 ⟨fun h => ?_, fun h => by rw [h]⟩
  have := congrArg BitVec.toNat h
  simp only [BitVec.toNat_ofNat] at this
  exact Fin.ext (by omega)

end Cert.Spec

end
-- ==== Proof.KForm.lean ====
/- One block row of the kernel: the arrays that its operations compute from the six blocks it reads, and each of them at an index. -/
module

public import proofs.«01_k».proof.Proof.Gen.KernelIdeal.Frame
public import Idealize.ShloMosaic.Lib.Pipeline.ValueKit
public import Idealize.ShloMosaic.Lib.Pointwise
public import proofs.«01_k».proof.Proof.Tables
public import proofs.«01_k».proof.Proof.Words

@[expose] public section

set_option maxRecDepth 16384

noncomputable section

namespace Cert.KernelIdeal.Value

open Idealize.ShloMosaic Idealize.ShloMosaic.TcCoe Idealize.SL.Sem
open Cert.KernelIdeal Cert.KernelIdeal.Gen Cert.Spec

/-- The integer table: the parts of every row's offset and the cell column. -/
def T0 : Vec Ideal S406x4 .i32 := fun i => lit0 (S406x4.rowMajor i)

/-- The same table in single precision, transposed, with the two penalty rows. -/
def T1 : Vec Ideal S5x406 .f32 := fun i => (FloatOps.ofBits .f32 (lit1 (S5x406.rowMajor i)) : Ideal .f32)

theorem T0_dy (b : Fin 14) (k : Fin 29) : T0 (ix2 (row b k) 0) = BitVec.ofNat 32 (dyF (offs k)).val - 3#32 := lit0_dy b k
theorem T0_dx (b : Fin 14) (k : Fin 29) : T0 (ix2 (row b k) 1) = BitVec.ofNat 32 (dxF (offs k)).val - 3#32 := lit0_dx b k
theorem T0_b (b : Fin 14) (k : Fin 29) : T0 (ix2 (row b k) 2) = BitVec.ofNat 32 b.val := lit0_b b k
theorem T1_dy (b : Fin 14) (k : Fin 29) : T1 (ix2 0 (row b k)) = ((((dyF (offs k)).val : ℝ) - 3 : ℝ) : EReal) :=
  (congrArg (Ideal.ofBits .f32) (lit1_dy b k)).trans (bitsD_eq _)
theorem T1_dx (b : Fin 14) (k : Fin 29) : T1 (ix2 1 (row b k)) = ((((dxF (offs k)).val : ℝ) - 3 : ℝ) : EReal) :=
  (congrArg (Ideal.ofBits .f32) (lit1_dx b k)).trans (bitsD_eq _)
theorem T1_b (b : Fin 14) (k : Fin 29) : T1 (ix2 2 (row b k)) = ((b.val : ℝ) : EReal) :=
  (congrArg (Ideal.ofBits .f32) (lit1_b b k)).trans (bitsC_eq _)
theorem T1_two (b : Fin 14) (k : Fin 29) : T1 (ix2 3 (row b k)) = if 1 < dist2 (offs k) ∧ dist2 (offs k) ≤ 4 then (1 : EReal) else 0 := by
  refine (congrArg (Ideal.ofBits .f32) (lit1_two b k)).trans ?_
  split
  · exact Nums.one
  · exact Ideal.ofBits_zero_f32
theorem T1_three (b : Fin 14) (k : Fin 29) : T1 (ix2 4 (row b k)) = if 4 < dist2 (offs k) then (1 : EReal) else 0 := by
  refine (congrArg (Ideal.ofBits .f32) (lit1_three b k)).trans ?_
  split
  · exact Nums.one
  · exact Ideal.ofBits_zero_f32

/-- The features that every table row takes. -/
def feats (i : grid0.Coords) (x0 : Vec Ideal S406x4 .i32) (x3 : Vec Ideal S196x96 .f32) : FVec Ideal S406x96 .f32 :=
  k0_pay9 (F := Ideal) (BitVec.ofNat 32 (i 0).val)
    (View.ld (Val := Elt Ideal) (S := S406x4) (e' := .i32) x0 (Rect.unit (s := S406x4) ![0, 0] ![406, 1] inb_S406x4_S406x1_0_0))
    (View.ld (Val := Elt Ideal) (S := S406x4) (e' := .i32) x0 (Rect.unit (s := S406x4) ![0, 1] ![406, 1] inb_S406x4_S406x1_0_1))
    (View.ld (Val := Elt Ideal) (S := S406x4) (e' := .i32) x0 (Rect.unit (s := S406x4) ![0, 2] ![406, 1] inb_S406x4_S406x1_0_2)) x3

/-- The table of the cells' parameters: eight rows, one column to a cell. -/
def tab (x2 : Vec Ideal S4x196 .f32) (x5 : Vec Ideal S196x3x256 .f32) : FVec Ideal S8x196 .f32 :=
  k0_pay7 (F := Ideal)
    (k0_pay2 (View.ld (Val := Elt Ideal) (S := S4x196) (e' := .f32) x2 (Rect.unit (s := S4x196) ![2, 0] ![1, 196] inb_S4x196_S1x196_2_0)))
    (k0_pay3 (View.ld (Val := Elt Ideal) (S := S4x196) (e' := .f32) x2 (Rect.unit (s := S4x196) ![0, 0] ![1, 196] inb_S4x196_S1x196_0_0)))
    (k0_pay4 (View.ld (Val := Elt Ideal) (S := S4x196) (e' := .f32) x2 (Rect.unit (s := S4x196) ![1, 0] ![1, 196] inb_S4x196_S1x196_1_0)))
    (k0_pay5 (View.ld (Val := Elt Ideal) (S := S4x196) (e' := .f32) x2 (Rect.unit (s := S4x196) ![3, 0] ![1, 196] inb_S4x196_S1x196_3_0)))
    k0_pay6
    (View.ld (Val := Elt Ideal) (S := S196x3x256) (e' := .f32) x5 (Rect.unit (s := S196x3x256) ![0, 0, 119] ![196, 3, 1] inb_S196x3x256_S196x3x1_0_0_119))
    (View.ld (Val := Elt Ideal) (S := S196x3x256) (e' := .f32) x5 (Rect.unit (s := S196x3x256) ![0, 0, 120] ![196, 3, 1] inb_S196x3x256_S196x3x1_0_0_120))
    (View.ld (Val := Elt Ideal) (S := S196x3x256) (e' := .f32) x5 (Rect.unit (s := S196x3x256) ![0, 0, 135] ![196, 3, 1] inb_S196x3x256_S196x3x1_0_0_135))
    (View.ld (Val := Elt Ideal) (S := S196x3x256) (e' := .f32) x5 (Rect.unit (s := S196x3x256) ![0, 0, 136] ![196, 3, 1] inb_S196x3x256_S196x3x1_0_0_136))

/-- Row `r` of the single-precision table, as it is loaded. -/
abbrev l0 (x1 : Vec Ideal S5x406 .f32) : Vec Ideal S1x406 .f32 :=
  View.ld (Val := Elt Ideal) (S := S5x406) (e' := .f32) x1 (Rect.unit (s := S5x406) ![0, 0] ![1, 406] inb_S5x406_S1x406_0_0)
abbrev l1 (x1 : Vec Ideal S5x406 .f32) : Vec Ideal S1x406 .f32 :=
  View.ld (Val := Elt Ideal) (S := S5x406) (e' := .f32) x1 (Rect.unit (s := S5x406) ![1, 0] ![1, 406] inb_S5x406_S1x406_1_0)
abbrev l2 (x1 : Vec Ideal S5x406 .f32) : Vec Ideal S1x406 .f32 :=
  View.ld (Val := Elt Ideal) (S := S5x406) (e' := .f32) x1 (Rect.unit (s := S5x406) ![2, 0] ![1, 406] inb_S5x406_S1x406_2_0)
abbrev l3 (x1 : Vec Ideal S5x406 .f32) : Vec Ideal S1x406 .f32 :=
  View.ld (Val := Elt Ideal) (S := S5x406) (e' := .f32) x1 (Rect.unit (s := S5x406) ![3, 0] ![1, 406] inb_S5x406_S1x406_3_0)
abbrev l4 (x1 : Vec Ideal S5x406 .f32) : Vec Ideal S1x406 .f32 :=
  View.ld (Val := Elt Ideal) (S := S5x406) (e' := .f32) x1 (Rect.unit (s := S5x406) ![4, 0] ![1, 406] inb_S5x406_S1x406_4_0)

/-- The row of the block plus the row part of every table row's offset. -/
def upos (i : grid0.Coords) (x1 : Vec Ideal S5x406 .f32) : FVec Ideal S1x406 .f32 := k0_pay10 (F := Ideal) (k0_pay1 i) (l0 x1)

/-- The parameters that every table row takes. -/
def params (i : grid0.Coords) (x1 : Vec Ideal S5x406 .f32) (T : FVec Ideal S8x196 .f32) : FVec Ideal S8x406 .f32 :=
  k0_pay13 (F := Ideal) T (l1 x1) (l2 x1) (upos i x1) (FloatOps.ofBits FTy.f32 0#32)

/-- The twelve coefficients of every table row. -/
def coefs (i : grid0.Coords) (x1 : Vec Ideal S5x406 .f32) (T : FVec Ideal S8x196 .f32) : FVec Ideal S14x29x12 .f32 :=
  k0_pay26 (F := Ideal) (l3 x1) (l4 x1)
    (k0_pay15 T (l1 x1) (l2 x1) (upos i x1) (FloatOps.ofBits FTy.f32 0#32))
    (k0_pay16 T (l1 x1) (l2 x1) (upos i x1) (FloatOps.ofBits FTy.f32 0#32))
    (k0_pay17 T (l1 x1) (l2 x1) (upos i x1) (FloatOps.ofBits FTy.f32 0#32))
    (k0_pay18 T (l1 x1) (l2 x1) (upos i x1) (FloatOps.ofBits FTy.f32 0#32))
    (k0_pay19 T (l1 x1) (l2 x1) (upos i x1) (FloatOps.ofBits FTy.f32 0#32))
    (k0_pay20 T (l1 x1) (l2 x1) (upos i x1) (FloatOps.ofBits FTy.f32 0#32))
    (k0_pay21 (l1 x1) (l2 x1)) (k0_pay22 (k0_pay1 i) (upos i x1) (FloatOps.ofBits FTy.f32 0#32))
    (k0_pay23 (k0_pay1 i) T (l1 x1) (l2 x1) (upos i x1) (FloatOps.ofBits FTy.f32 0#32))
    (k0_pay24 (k0_pay1 i) T (l1 x1) (l2 x1) (upos i x1) (FloatOps.ofBits FTy.f32 0#32))
    (k0_pay25 T (l1 x1) (l2 x1) (upos i x1) (FloatOps.ofBits FTy.f32 0#32))

/-- The six powers of a pixel's place in its cell. -/
def place6 : FVec Ideal S14x6x256 .f32 :=
  k0_pay32 (F := Ideal) (iota Kind.tc S1x1x256 32 [2] iota_S1x1x256_d2_w32) k0_pay27 k0_pay28 k0_pay29

/-- The guide over the block row. -/
def guideRow (i : grid0.Coords) (x5 : Vec Ideal S196x3x256 .f32) : FVec Ideal S14x3x256 .f32 :=
  k0_pay8 (F := Ideal) (View.ld (Val := Elt Ideal) (S := S196x3x256) (e' := .f32) x5 (Rect.unit (s := S196x3x256) (k0_off1 i) ![14, 3, 256] (k0_off1_inb i)))

/-- The weights of the columns of the resampling. -/
def wcol : FVec Ideal S14x14x256 .f32 := k0_pay38 (F := Ideal) (k0_pay31 (iota Kind.tc S1x1x256 32 [2] iota_S1x1x256_d2_w32))

/-- The scales resampled along the rows. -/
def qrow (i : grid0.Coords) (x4 : Vec Ideal S14x14 .f32) : FVec Ideal S14x1x256 .f32 :=
  k0_pay39 (F := Ideal) (k0_pay37 (k0_pay1 i) k0_pay27 k0_pay28 k0_pay29) (FloatOps.ofBits FTy.f32 1056964608#32) x4

variable (i : grid0.Coords) (a : Fin 14) (ha : (i 0).val = a.val) (b : Fin 14) (k : Fin 29)
include ha

/-- A table row takes the features of the cell that its offset leads to. -/
theorem feats_at (x3 : Vec Ideal S196x96 .f32) (ch : Fin 96) : feats i T0 x3 (ix2 (row b k) ch)
    = x3 (ix2 (cell (clampC a (dyF (offs k))) (clampC b (dxF (offs k)))) ch) := by
  pointwise [feats, k0_pay9]
  rw [T0_dy, T0_dx, T0_b, ha, clamp_word, clamp_word, cell_word]
  simp only [pick_word, sitofp_bool]
  exact sum_pick' (fun x => x3 (ix2 x ch)) _

omit ha in
theorem l0_at : l0 T1 (ix2 0 (row b k)) = ((((dyF (offs k)).val : ℝ) - 3 : ℝ) : EReal) := by
  pointwise [l0]; exact T1_dy b k
omit ha in
theorem l1_at : l1 T1 (ix2 0 (row b k)) = ((((dxF (offs k)).val : ℝ) - 3 : ℝ) : EReal) := by
  pointwise [l1]; exact T1_dx b k
omit ha in
theorem l2_at : l2 T1 (ix2 0 (row b k)) = ((b.val : ℝ) : EReal) := by
  pointwise [l2]; exact T1_b b k

theorem pay1_at : k0_pay1 (F := Ideal) i = ((a.val : ℝ) : EReal) := by
  unfold k0_pay1
  rw [ha]
  exact sitofp_nat a.val (by omega)

theorem upos_at : upos i T1 (ix2 0 (row b k)) = ((a.val : ℝ) : EReal) + ((((dyF (offs k)).val : ℝ) - 3 : ℝ) : EReal) := by
  pointwise [upos, k0_pay10]
  rw [pay1_at i a ha, l0_at]

/-- The row of the cell that an offset leads to. -/
theorem ucell_at : k0_pay11 (F := Ideal) (upos i T1) 0 (ix2 0 (row b k)) = (((clampC a (dyF (offs k))).val : ℝ) : EReal) := by
  pointwise [k0_pay11]
  rw [upos_at i a ha, Nums.thirteen, clamp_real]

omit ha in
/-- The column of the cell that an offset leads to. -/
theorem vcell_at : k0_pay12 (F := Ideal) (l1 T1) (l2 T1) (ix2 0 (row b k)) = (((clampC b (dxF (offs k))).val : ℝ) : EReal) := by
  pointwise [k0_pay12]
  rw [l1_at, l2_at, Nums.thirteen, clamp_real]

/-- A table row takes the parameters of the cell that its offset leads to. -/
theorem params_at (T : FVec Ideal S8x196 .f32) (r : Fin 8) : k0_pay13 (F := Ideal) T (l1 T1) (l2 T1) (upos i T1) 0 (ix2 r (row b k))
    = T (ix2 r (cell (clampC a (dyF (offs k))) (clampC b (dxF (offs k))))) := by
  pointwise [k0_pay13]
  rw [ucell_at i a ha, vcell_at, Nums.fourteen, cell_real]
  simp only [sitofp_bool, pick_real]
  exact sum_pick (fun x => T (ix2 r x)) _

set_option maxHeartbeats 4000000 in
omit ha in
/-- The coefficients of a table row, by column. -/
theorem pay26_at (v113 v114 v137 v138 v139 v140 v141 v142 v144 v146 v160 v165 v167 : FVec Ideal S1x406 .f32) (r : Fin 12) :
    k0_pay26 v113 v114 v137 v138 v139 v140 v141 v142 v144 v146 v160 v165 v167 (ix3 b k r)
      = (![v160 (ix2 0 (row b k)), v165 (ix2 0 (row b k)), v167 (ix2 0 (row b k)),
          ((32 : ℝ) : EReal) * (v137 (ix2 0 (row b k)) * v146 (ix2 0 (row b k)) + v138 (ix2 0 (row b k)) * v144 (ix2 0 (row b k))),
          0 - v137 (ix2 0 (row b k)), ((-2 : ℝ) : EReal) * v138 (ix2 0 (row b k)), 0 - v139 (ix2 0 (row b k)),
          ((2 : ℝ) : EReal) * v139 (ix2 0 (row b k)) * v140 (ix2 0 (row b k)),
          ((2 : ℝ) : EReal) * v139 (ix2 0 (row b k)) * v141 (ix2 0 (row b k)),
          ((2 : ℝ) : EReal) * v139 (ix2 0 (row b k)) * v142 (ix2 0 (row b k)),
          v113 (ix2 0 (row b k)), v114 (ix2 0 (row b k))] : Fin 12 → EReal) r := by
  rw [← Nums.thirtytwo, ← Nums.negtwo, ← Nums.two]
  pointwise [k0_pay26]
  generalize Ideal.ofBits FTy.f32 1107296256#32 = c1
  generalize Ideal.ofBits FTy.f32 3221225472#32 = c2
  generalize Ideal.ofBits FTy.f32 1073741824#32 = c3
  fin_cases r <;> rfl

variable (T : FVec Ideal S8x196 .f32)

/-- The coefficients of a table row, from the parameters of the cell that its offset leads to and from the way there. -/
theorem coefs_at (r : Fin 12) (A B C R L0 L1 L2 S : EReal) (u v : Fin 14)
    (hu : clampC a (dyF (offs k)) = u) (hv : clampC b (dxF (offs k)) = v)
    (hA : T (ix2 0 (cell u v)) = A) (hB : T (ix2 1 (cell u v)) = B) (hC : T (ix2 2 (cell u v)) = C) (hR : T (ix2 3 (cell u v)) = R)
    (h0 : T (ix2 4 (cell u v)) = L0) (h1 : T (ix2 5 (cell u v)) = L1) (h2 : T (ix2 6 (cell u v)) = L2) (hS : T (ix2 7 (cell u v)) = S) :
    coefs i T1 T (ix3 b k r)
      = (![((-256 : ℝ) : EReal) * (A * (((v.val : ℝ) : EReal) - ((b.val : ℝ) : EReal)) * (((v.val : ℝ) : EReal) - ((b.val : ℝ) : EReal))
              + B * (((u.val : ℝ) : EReal) - ((a.val : ℝ) : EReal)) * (((u.val : ℝ) : EReal) - ((a.val : ℝ) : EReal)))
            - ((512 : ℝ) : EReal) * C * (((v.val : ℝ) : EReal) - ((b.val : ℝ) : EReal)) * (((u.val : ℝ) : EReal) - ((a.val : ℝ) : EReal)) - R * S,
          ((32 : ℝ) : EReal) * (A * (((v.val : ℝ) : EReal) - ((b.val : ℝ) : EReal)) + C * (((u.val : ℝ) : EReal) - ((a.val : ℝ) : EReal))),
          0 - A,
          ((32 : ℝ) : EReal) * (B * (((u.val : ℝ) : EReal) - ((a.val : ℝ) : EReal)) + C * (((v.val : ℝ) : EReal) - ((b.val : ℝ) : EReal))),
          0 - B, ((-2 : ℝ) : EReal) * C, 0 - R,
          ((2 : ℝ) : EReal) * R * L0, ((2 : ℝ) : EReal) * R * L1, ((2 : ℝ) : EReal) * R * L2,
          if 1 < dist2 (offs k) ∧ dist2 (offs k) ≤ 4 then (1 : EReal) else 0,
          if 4 < dist2 (offs k) then (1 : EReal) else 0] : Fin 12 → EReal) r := by
  subst hu hv hA hB hC hR h0 h1 h2 hS
  unfold coefs
  rw [pay26_at]
  have h3 : l3 T1 (ix2 0 (row b k)) = if 1 < dist2 (offs k) ∧ dist2 (offs k) ≤ 4 then (1 : EReal) else 0 := by
    pointwise [l3]; exact T1_two b k
  have h4 : l4 T1 (ix2 0 (row b k)) = if 4 < dist2 (offs k) then (1 : EReal) else 0 := by
    pointwise [l4]; exact T1_three b k
  rw [h3, h4]
  have hz : (FloatOps.ofBits (F := Ideal) FTy.f32 0#32) = (0 : EReal) := Ideal.ofBits_zero_f32
  rw [hz]
  pointwise [k0_pay23, k0_pay24, k0_pay25, k0_pay14, k0_pay15, k0_pay16, k0_pay17, k0_pay18, k0_pay19, k0_pay20, k0_pay21, k0_pay22]
  simp only [params_at i a ha, ucell_at i a ha, vcell_at, pay1_at i a ha, l2_at, Nums.neg256, Nums.fivetwelve, Nums.thirtytwo]

end Cert.KernelIdeal.Value

end
-- ==== Proof.Weight.lean ====
/- The weights of linear resampling: hat functions divided by their sum. -/
module

public import proofs.«01_k».proof.Proof.Words

@[expose] public section

set_option maxRecDepth 16384

noncomputable section

namespace Cert.Spec

open Idealize.ShloMosaic

/-- The hat function around `p`, at the whole number `k`. -/
def hat (p : ℝ) (k : ℕ) : ℝ := max 0 (1 - |p - k|)

/-- The weight of place `k` among `n`, for a sample taken at `p`. -/
def wgt {n : ℕ} (p : ℝ) (k : Fin n) : EReal := Ideal.div ((hat p k.val : ℝ) : EReal) (∑ x : Fin n, ((hat p x.val : ℝ) : EReal))

/-- Where the middle of output row `Y` lies among the rows of cells. -/
def centre (Y : Fin 224) : ℝ := ((Y.val : ℝ) + 1 / 2) / 16 - 1 / 2

/-- The place of a pixel in its cell, from the cell's middle. -/
def mid (x : Fin 16) : ℝ := (x.val : ℝ) - 15 / 2

theorem absf_coe (r : ℝ) : FloatOps.absf (F := Ideal) (φ := .f32) ((r : ℝ) : EReal) = ((|r| : ℝ) : EReal) := by
  show max ((r : ℝ) : EReal) (-((r : ℝ) : EReal)) = _
  rw [← EReal.coe_neg, coe_max]; rfl

theorem hat_coe (p : ℝ) (k : ℕ) (hk : k < 2 ^ 31) : max (0 : EReal) (1 - FloatOps.absf (F := Ideal) (φ := .f32)
    (((p : ℝ) : EReal) - FloatOps.sitofp (F := Ideal) .f32 (BitVec.ofNat 32 k))) = ((hat p k : ℝ) : EReal) := by
  rw [sitofp_nat k hk, ← EReal.coe_sub, absf_coe, ← EReal.coe_one, ← EReal.coe_sub, ← EReal.coe_zero, coe_max]
  rfl

theorem pos_eq (b : Fin 14) (x : Fin 16) :
    Ideal.div (((b.val : ℝ) : EReal) * Ideal.ofBits .f32 0x41800000#32 + ((x.val : ℝ) : EReal) + Ideal.ofBits .f32 0x3F000000#32)
      (Ideal.ofBits .f32 0x41800000#32) - Ideal.ofBits .f32 0x3F000000#32 = ((centre (pix b x) : ℝ) : EReal) := by
  rw [Nums.sixteen, Nums.half, Ideal.div_coe (by norm_num), ← EReal.coe_mul, ← EReal.coe_add, ← EReal.coe_add, ← EReal.coe_mul, ← EReal.coe_sub]
  congr 1
  simp only [centre, pix]; push_cast; ring

/-- The hat weight as the kernel computes it, from the cell and the place in the cell. -/
theorem hat_eq (b : Fin 14) (x : Fin 16) (j : Fin 14) : max (0 : EReal) (1 - FloatOps.absf (F := Ideal) (φ := .f32)
    (Ideal.div (((b.val : ℝ) : EReal) * Ideal.ofBits .f32 0x41800000#32 + ((x.val : ℝ) : EReal) + Ideal.ofBits .f32 0x3F000000#32)
      (Ideal.ofBits .f32 0x41800000#32) - Ideal.ofBits .f32 0x3F000000#32 - FloatOps.sitofp (F := Ideal) .f32 (BitVec.ofNat 32 j.val)))
    = ((hat (centre (pix b x)) j.val : ℝ) : EReal) := by
  rw [pos_eq, hat_coe _ _ (by omega)]

/-- The middle of cell row `a` among the output rows. -/
def middle (a : Fin 14) : ℝ := (a.val : ℝ) * 16 + 15 / 2

theorem hat_middle (a : Fin 14) (k : Fin 224) : hat (middle a) k.val = if k = pix a 7 ∨ k = pix a 8 then 1 / 2 else 0 := by
  have h7 : (k = pix a 7) ↔ k.val = a.val * 16 + 7 := Fin.ext_iff
  have h8 : (k = pix a 8) ↔ k.val = a.val * 16 + 8 := Fin.ext_iff
  simp only [hat, middle, h7, h8]
  split
  · rename_i h
    rcases h with h | h <;> rw [h] <;> push_cast
    · rw [show (a.val : ℝ) * 16 + 15 / 2 - (a.val * 16 + 7) = 1 / 2 by ring, abs_of_pos (by norm_num)]; norm_num
    · rw [show (a.val : ℝ) * 16 + 15 / 2 - (a.val * 16 + 8) = -(1 / 2) by ring, abs_neg, abs_of_pos (by norm_num)]; norm_num
  · rename_i h
    apply max_eq_left
    rcases (by omega : k.val ≤ a.val * 16 + 6 ∨ a.val * 16 + 9 ≤ k.val) with h' | h'
    · have : (k.val : ℝ) ≤ a.val * 16 + 6 := by exact_mod_cast h'
      have := le_abs_self ((a.val : ℝ) * 16 + 15 / 2 - k.val)
      linarith
    · have : (a.val : ℝ) * 16 + 9 ≤ k.val := by exact_mod_cast h'
      have := neg_abs_le ((a.val : ℝ) * 16 + 15 / 2 - k.val)
      linarith

theorem pix_ne (a : Fin 14) : pix a 7 ≠ pix a 8 := by
  intro h; have := congrArg Fin.val h; simp [pix] at this

/-- A sum in which all but two terms vanish. -/
theorem sum_two (a : Fin 14) (f : Fin 224 → EReal) :
    ∑ k : Fin 224, (((if k = pix a 7 ∨ k = pix a 8 then 1 / 2 else 0 : ℝ)) : EReal) * f k
      = ((1 / 2 : ℝ) : EReal) * f (pix a 7) + ((1 / 2 : ℝ) : EReal) * f (pix a 8) := by
  have h : ∀ k : Fin 224, (((if k = pix a 7 ∨ k = pix a 8 then 1 / 2 else 0 : ℝ)) : EReal) * f k
      = (if k = pix a 7 then ((1 / 2 : ℝ) : EReal) * f (pix a 7) else 0) + (if k = pix a 8 then ((1 / 2 : ℝ) : EReal) * f (pix a 8) else 0) := by
    intro k
    by_cases h7 : k = pix a 7
    · have h8 : ¬ k = pix a 8 := fun h => pix_ne a (h7.symm.trans h)
      rw [if_pos h7, if_neg h8, if_pos (Or.inl h7), add_zero, h7]
    · by_cases h8 : k = pix a 8
      · rw [if_neg h7, if_pos h8, if_pos (Or.inr h8), zero_add, h8]
      · rw [if_neg h7, if_neg h8, if_neg (by tauto), EReal.coe_zero, zero_mul, add_zero]
  rw [Finset.sum_congr rfl fun k _ => h k, Finset.sum_add_distrib, Finset.sum_ite_eq' Finset.univ, Finset.sum_ite_eq' Finset.univ]
  simp

theorem wgt_middle (a : Fin 14) (k : Fin 224) : wgt (middle a) k = ((if k = pix a 7 ∨ k = pix a 8 then 1 / 2 else 0 : ℝ) : EReal) := by
  have h : ∑ x : Fin 224, ((hat (middle a) x.val : ℝ) : EReal) = ((1 : ℝ) : EReal) := by
    have := sum_two a fun _ => 1
    simp only [mul_one] at this
    simp only [hat_middle]
    rw [this, ← EReal.coe_add]; norm_num
  rw [wgt, h, Ideal.div_coe one_ne_zero, hat_middle, ← EReal.coe_mul]
  norm_num

/-- The guide taken down to the grid of cells: at the middle of a cell four pixels meet, each with a quarter. -/
theorem lowres (u v : Fin 14) (g : Fin 224 → Fin 224 → EReal) :
    ∑ x : Fin 224, (∑ y : Fin 224, wgt (middle u) y * g y x) * wgt (middle v) x
      = ((1 / 4 : ℝ) : EReal) * (g (pix u 7) (pix v 7) + g (pix u 7) (pix v 8) + g (pix u 8) (pix v 7) + g (pix u 8) (pix v 8)) := by
  simp only [wgt_middle]
  have hd : ∀ x y : EReal, ((1 / 2 : ℝ) : EReal) * (x + y) = ((1 / 2 : ℝ) : EReal) * x + ((1 / 2 : ℝ) : EReal) * y := fun x y =>
    EReal.left_distrib_of_nonneg_of_ne_top (by exact_mod_cast (by norm_num : (0 : ℝ) ≤ 1 / 2)) (EReal.coe_ne_top _) x y
  simp only [sum_two]
  rw [Finset.sum_congr rfl fun x _ => mul_comm _ _, sum_two]
  have hq : ∀ x : EReal, ((1 / 4 : ℝ) : EReal) * x = ((1 / 2 : ℝ) : EReal) * (((1 / 2 : ℝ) : EReal) * x) := fun x => by
    rw [← mul_assoc, ← EReal.coe_mul]; norm_num
  rw [hq]
  simp only [hd]
  abel

end Cert.Spec

end
-- ==== Proof.Cell.lean ====
/- The logarithm of one offset's weight: the kernel's twelve products against the three quotients of the reference. -/
module

public import proofs.«01_k».proof.Proof.Weight

@[expose] public section

set_option maxRecDepth 16384

noncomputable section

namespace Cert.Spec

open Idealize.ShloMosaic

/-- A cell's deviation, kept above a millionth. -/
def dev (x : EReal) : EReal := max (Ideal.exp x) ((Nums.e6 : ℝ) : EReal)

/-- Twice a cell's variance, kept above nothing. -/
def den (x : EReal) : EReal := ((2 : ℝ) : EReal) * (dev x * dev x) + ((Nums.e8 : ℝ) : EReal)

/-- The reciprocal of twice a cell's variance. -/
def iso (x : EReal) : EReal := Ideal.div 1 (((2 : ℝ) : EReal) * dev x * dev x + ((Nums.e8 : ℝ) : EReal))

/-- A cell's angle. -/
def ang (x : EReal) : EReal := ((Nums.piR : ℝ) : EReal) * Ideal.tanh x

theorem den_cases (x : EReal) : den x = ⊤ ∨ ∃ d : ℝ, 0 < d ∧ den x = (d : EReal) := by
  have h : dev x = ⊤ ∨ ∃ r : ℝ, 0 < r ∧ dev x = (r : EReal) := by
    unfold dev
    induction x with
    | bot => right; refine ⟨Nums.e6, Nums.e6_pos, ?_⟩
             rw [Ideal.exp_bot, ← EReal.coe_zero, coe_max, max_eq_right Nums.e6_pos.le]
    | top => left; rw [Ideal.exp_top]; exact max_eq_left le_top
    | coe r => right; refine ⟨max (Real.exp r) Nums.e6, lt_max_of_lt_right Nums.e6_pos, ?_⟩
               rw [Ideal.exp_coe, coe_max]
  unfold den
  rcases h with h | ⟨r, hr, h⟩
  · left; rw [h, EReal.top_mul_top, EReal.coe_mul_top_of_pos (by norm_num)]; rfl
  · right; refine ⟨2 * (r * r) + Nums.e8, by have := Nums.e8_pos; positivity, ?_⟩
    rw [h]; push_cast; rfl

theorem div_eq (y d : EReal) (h : d ≠ 0) : Ideal.div y d = y * Ideal.div 1 d := by
  unfold Ideal.div; rw [if_neg h, if_neg h, one_mul]

theorem iso_eq (x : EReal) : iso x = Ideal.div 1 (den x) := by unfold iso den; rw [mul_assoc]

/-- Dividing by twice the variance is multiplying by the reciprocal. -/
theorem div_den (y x : EReal) : Ideal.div y (den x) = y * iso x := by
  rw [iso_eq]
  refine div_eq y _ ?_
  rcases den_cases x with h | ⟨d, hd, h⟩ <;> rw [h]
  · exact EReal.top_ne_zero
  · exact_mod_cast hd.ne'

theorem iso_real (x : EReal) : ∃ r : ℝ, 0 ≤ r ∧ iso x = (r : EReal) := by
  rw [iso_eq]
  rcases den_cases x with h | ⟨d, hd, h⟩ <;> rw [h]
  · refine ⟨0, le_rfl, ?_⟩
    unfold Ideal.div; rw [if_neg EReal.top_ne_zero, EReal.inv_top, mul_zero]; rfl
  · refine ⟨1 / d, by positivity, ?_⟩
    rw [Ideal.div_coe hd.ne', one_mul]

theorem ang_real (x : EReal) : ∃ r : ℝ, ang x = (r : EReal) := by
  unfold ang
  induction x with
  | bot => exact ⟨Nums.piR * -1, by rw [Ideal.tanh_bot]; push_cast; rfl⟩
  | top => exact ⟨Nums.piR * 1, by rw [Ideal.tanh_top]; push_cast; rfl⟩
  | coe r => exact ⟨Nums.piR * Real.tanh r, by rw [Ideal.tanh_coe]; push_cast; rfl⟩

theorem sq_nonneg' (x : EReal) : 0 ≤ x * x := by
  induction x with
  | bot => rw [EReal.bot_mul_bot]; exact le_top
  | top => rw [EReal.top_mul_top]; exact le_top
  | coe r => rw [← EReal.coe_mul]; exact_mod_cast mul_self_nonneg r

/-- An extended real that isn't a real squares to infinity. -/
theorem sq_top (x : EReal) (h : ∀ r : ℝ, x ≠ (r : EReal)) : x * x = ⊤ := by
  induction x with
  | bot => exact EReal.bot_mul_bot
  | top => exact EReal.top_mul_top
  | coe r => exact absurd rfl (h r)

theorem sub_not_real (x y : EReal) (h : (∀ r : ℝ, x ≠ (r : EReal)) ∨ ∀ r : ℝ, y ≠ (r : EReal)) (r : ℝ) : x - y ≠ (r : EReal) := by
  induction x with
  | bot => rw [EReal.bot_sub]; exact (EReal.coe_ne_bot r).symm
  | top => induction y with
    | bot => exact (EReal.coe_ne_top r).symm
    | top => exact (EReal.coe_ne_bot r).symm
    | coe q => exact (EReal.coe_ne_top r).symm
  | coe p => induction y with
    | bot => exact (EReal.coe_ne_top r).symm
    | top => exact (EReal.coe_ne_bot r).symm
    | coe q => rcases h with h | h
               · exact absurd rfl (h p)
               · exact absurd rfl (h q)

/-- Three numbers of which one isn't real have squares that sum to infinity. -/
theorem squares_top (f : Fin 3 → EReal) (i : Fin 3) (h : ∀ r : ℝ, f i ≠ (r : EReal)) : f 0 * f 0 + f 1 * f 1 + f 2 * f 2 = ⊤ := by
  have hb : ∀ j, f j * f j ≠ ⊥ := fun j hj => by have := sq_nonneg' (f j); rw [hj] at this; exact absurd this (by decide)
  have ht := sq_top _ h
  fin_cases i
  · change f 0 * f 0 = ⊤ at ht
    rw [ht, EReal.top_add_of_ne_bot (hb 1), EReal.top_add_of_ne_bot (hb 2)]
  · change f 1 * f 1 = ⊤ at ht
    rw [ht, EReal.add_top_of_ne_bot (hb 0), EReal.top_add_of_ne_bot (hb 2)]
  · change f 2 * f 2 = ⊤ at ht
    rw [ht, EReal.add_top_of_ne_bot (fun h => by
      rcases EReal.add_eq_bot_iff.1 h with h | h
      · exact hb 0 h
      · exact hb 1 h)]

/-- The exponent of an offset: the two parts of the way in the cell's own axes, and the way in the guide. -/
def expo (p q t r : EReal) (g l : Fin 3 → EReal) (dx dy : ℝ) : EReal :=
  Ideal.div (-((((dx : ℝ) : EReal) * Ideal.cos (ang t) + ((dy : ℝ) : EReal) * Ideal.sin (ang t))
      * (((dx : ℝ) : EReal) * Ideal.cos (ang t) + ((dy : ℝ) : EReal) * Ideal.sin (ang t)))) (den p)
    - Ideal.div ((-((dx : ℝ) : EReal) * Ideal.sin (ang t) + ((dy : ℝ) : EReal) * Ideal.cos (ang t))
      * (-((dx : ℝ) : EReal) * Ideal.sin (ang t) + ((dy : ℝ) : EReal) * Ideal.cos (ang t))) (den q)
    - Ideal.div ((g 0 - l 0) * (g 0 - l 0) + (g 1 - l 1) * (g 1 - l 1) + (g 2 - l 2) * (g 2 - l 2)) (den r)

/-- The same exponent as ten products, where all is real but the guide. -/
theorem core (c s P Q R mx my ex ey : ℝ) (hR : 0 ≤ R) (g l : Fin 3 → EReal) :
    (((-256 : ℝ) : EReal) * (((c * c * P + s * s * Q : ℝ) : EReal) * ((ex : ℝ) : EReal) * ((ex : ℝ) : EReal)
          + ((s * s * P + c * c * Q : ℝ) : EReal) * ((ey : ℝ) : EReal) * ((ey : ℝ) : EReal))
        - ((512 : ℝ) : EReal) * ((c * s * (P - Q) : ℝ) : EReal) * ((ex : ℝ) : EReal) * ((ey : ℝ) : EReal)
        - ((R : ℝ) : EReal) * (l 0 * l 0 + l 1 * l 1 + l 2 * l 2)) * 1
      + ((32 : ℝ) : EReal) * (((c * c * P + s * s * Q : ℝ) : EReal) * ((ex : ℝ) : EReal) + ((c * s * (P - Q) : ℝ) : EReal) * ((ey : ℝ) : EReal)) * ((mx : ℝ) : EReal)
      + (0 - ((c * c * P + s * s * Q : ℝ) : EReal)) * ((mx * mx : ℝ) : EReal)
      + ((32 : ℝ) : EReal) * (((s * s * P + c * c * Q : ℝ) : EReal) * ((ey : ℝ) : EReal) + ((c * s * (P - Q) : ℝ) : EReal) * ((ex : ℝ) : EReal)) * ((my : ℝ) : EReal)
      + (0 - ((s * s * P + c * c * Q : ℝ) : EReal)) * ((my * my : ℝ) : EReal)
      + ((-2 : ℝ) : EReal) * ((c * s * (P - Q) : ℝ) : EReal) * ((mx * my : ℝ) : EReal)
      + (0 - ((R : ℝ) : EReal)) * (g 0 * g 0 + g 1 * g 1 + g 2 * g 2)
      + ((2 : ℝ) : EReal) * ((R : ℝ) : EReal) * l 0 * g 0 + ((2 : ℝ) : EReal) * ((R : ℝ) : EReal) * l 1 * g 1
      + ((2 : ℝ) : EReal) * ((R : ℝ) : EReal) * l 2 * g 2
    = (-((((mx - 16 * ex : ℝ) : EReal) * ((c : ℝ) : EReal) + ((my - 16 * ey : ℝ) : EReal) * ((s : ℝ) : EReal))
          * (((mx - 16 * ex : ℝ) : EReal) * ((c : ℝ) : EReal) + ((my - 16 * ey : ℝ) : EReal) * ((s : ℝ) : EReal)))) * ((P : ℝ) : EReal)
      - (-((mx - 16 * ex : ℝ) : EReal) * ((s : ℝ) : EReal) + ((my - 16 * ey : ℝ) : EReal) * ((c : ℝ) : EReal))
          * (-((mx - 16 * ex : ℝ) : EReal) * ((s : ℝ) : EReal) + ((my - 16 * ey : ℝ) : EReal) * ((c : ℝ) : EReal)) * ((Q : ℝ) : EReal)
      - ((g 0 - l 0) * (g 0 - l 0) + (g 1 - l 1) * (g 1 - l 1) + (g 2 - l 2) * (g 2 - l 2)) * ((R : ℝ) : EReal) := by
  rcases hR.eq_or_lt with h0 | hpos
  · subst h0
    simp only [EReal.coe_zero, zero_mul, mul_zero, sub_zero, add_zero]
    simp only [← EReal.coe_zero, ← EReal.coe_one, ← EReal.coe_neg, ← EReal.coe_mul, ← EReal.coe_add, ← EReal.coe_sub]
    congr 1; ring
  · by_cases hl : ∀ i, ∃ r : ℝ, l i = (r : EReal)
    · by_cases hg : ∀ i, ∃ r : ℝ, g i = (r : EReal)
      · obtain ⟨l0, h0⟩ := hl 0
        obtain ⟨l1, h1⟩ := hl 1
        obtain ⟨l2, h2⟩ := hl 2
        obtain ⟨g0, k0⟩ := hg 0
        obtain ⟨g1, k1⟩ := hg 1
        obtain ⟨g2, k2⟩ := hg 2
        rw [h0, h1, h2, k0, k1, k2]
        simp only [← EReal.coe_zero, ← EReal.coe_one, ← EReal.coe_neg, ← EReal.coe_mul, ← EReal.coe_add, ← EReal.coe_sub]
        congr 1; ring
      · obtain ⟨i, hi⟩ := not_forall.1 hg
        have hi' : ∀ r : ℝ, g i ≠ (r : EReal) := fun r h => hi ⟨r, h⟩
        have hn : (0 - ((R : ℝ) : EReal)) * ⊤ = ⊥ := by
          rw [zero_sub, ← EReal.coe_neg, EReal.coe_mul_top_of_neg (by linarith)]
        rw [squares_top g i hi', squares_top (fun j => g j - l j) i (sub_not_real _ _ (Or.inl hi')), EReal.top_mul_coe_of_pos hpos, hn]
        simp only [EReal.add_bot, EReal.bot_add, EReal.sub_top]
    · obtain ⟨i, hi⟩ := not_forall.1 hl
      have hi' : ∀ r : ℝ, l i ≠ (r : EReal) := fun r h => hi ⟨r, h⟩
      rw [squares_top l i hi', squares_top (fun j => g j - l j) i (sub_not_real _ _ (Or.inr hi')),
        EReal.top_mul_coe_of_pos hpos, EReal.coe_mul_top_of_pos hpos]
      simp only [EReal.add_bot, EReal.bot_add, EReal.sub_top, mul_one]

/-- The kernel's sum of twelve products is the exponent and the two penalties. -/
theorem twelve (p q t r : EReal) (g l : Fin 3 → EReal) (mx my ex ey : ℝ) (z2 z3 p2 p3 : EReal) (A B C R : EReal)
    (hA : A = Ideal.cos (ang t) * Ideal.cos (ang t) * iso p + Ideal.sin (ang t) * Ideal.sin (ang t) * iso q)
    (hB : B = Ideal.sin (ang t) * Ideal.sin (ang t) * iso p + Ideal.cos (ang t) * Ideal.cos (ang t) * iso q)
    (hC : C = Ideal.cos (ang t) * Ideal.sin (ang t) * (iso p - iso q)) (hR : R = iso r) :
    ∑ x : Fin 12, (![((-256 : ℝ) : EReal) * (A * ((ex : ℝ) : EReal) * ((ex : ℝ) : EReal) + B * ((ey : ℝ) : EReal) * ((ey : ℝ) : EReal))
            - ((512 : ℝ) : EReal) * C * ((ex : ℝ) : EReal) * ((ey : ℝ) : EReal) - R * (l 0 * l 0 + l 1 * l 1 + l 2 * l 2),
          ((32 : ℝ) : EReal) * (A * ((ex : ℝ) : EReal) + C * ((ey : ℝ) : EReal)), 0 - A,
          ((32 : ℝ) : EReal) * (B * ((ey : ℝ) : EReal) + C * ((ex : ℝ) : EReal)), 0 - B, ((-2 : ℝ) : EReal) * C, 0 - R,
          ((2 : ℝ) : EReal) * R * l 0, ((2 : ℝ) : EReal) * R * l 1, ((2 : ℝ) : EReal) * R * l 2, z2, z3] : Fin 12 → EReal) x
      * (![1, ((mx : ℝ) : EReal), ((mx * mx : ℝ) : EReal), ((my : ℝ) : EReal), ((my * my : ℝ) : EReal), ((mx * my : ℝ) : EReal),
          g 0 * g 0 + g 1 * g 1 + g 2 * g 2, g 0, g 1, g 2, p2, p3] : Fin 12 → EReal) x
    = expo p q t r g l (mx - 16 * ex) (my - 16 * ey) + z2 * p2 + z3 * p3 := by
  obtain ⟨θ, hθ⟩ := ang_real t
  obtain ⟨P, -, hP⟩ := iso_real p
  obtain ⟨Q, -, hQ⟩ := iso_real q
  obtain ⟨S, hS, hS'⟩ := iso_real r
  unfold expo
  simp only [div_den]
  rw [hθ, hP, hQ, Ideal.cos_coe, Ideal.sin_coe] at hA hB hC
  rw [hθ, hP, hQ, hS', Ideal.cos_coe, Ideal.sin_coe, ← core _ _ _ _ _ _ _ _ _ hS]
  rw [hS'] at hR
  simp only [← EReal.coe_mul, ← EReal.coe_add, ← EReal.coe_sub] at hA hB hC
  subst hA hB hC hR
  simp only [Fin.sum_univ_castSucc, Fin.sum_univ_zero, zero_add]
  rfl

end Cert.Spec

end
-- ==== Proof.KReads.lean ====
/- The kernel's remaining arrays of one block row at an index: the cells' parameters, the places of the pixels, the guide and the resampled scales. -/
module

public import proofs.«01_k».proof.Proof.KForm
public import proofs.«01_k».proof.Proof.Cell

@[expose] public section

set_option maxRecDepth 16384

noncomputable section

namespace Cert.KernelIdeal.Value

open Idealize.ShloMosaic Idealize.ShloMosaic.TcCoe Idealize.SL.Sem
open Cert.KernelIdeal Cert.KernelIdeal.Gen Cert.Spec

/-- A lane's remainder by sixteen, in the words the kernel computes. -/
theorem rem_word : ∀ y x : Fin 16, Scalar.select (IntOp.andi
      (IntOp.xori (IntOp.cmpi CmpIPredicate.slt (IntOp.remsi ArithUnit.vector (BitVec.ofNat 32 (lane y x).val)
          (Scalar.select (Scalar.cmpi CmpIPredicate.eq 16#32 0#32) 1#32 16#32)) 0#32)
        (Scalar.cmpi CmpIPredicate.slt (Scalar.select (Scalar.cmpi CmpIPredicate.eq 16#32 0#32) 1#32 16#32) 0#32))
      (IntOp.cmpi CmpIPredicate.ne (IntOp.remsi ArithUnit.vector (BitVec.ofNat 32 (lane y x).val)
          (Scalar.select (Scalar.cmpi CmpIPredicate.eq 16#32 0#32) 1#32 16#32)) 0#32))
    (IntOp.addi (IntOp.remsi ArithUnit.vector (BitVec.ofNat 32 (lane y x).val)
        (Scalar.select (Scalar.cmpi CmpIPredicate.eq 16#32 0#32) 1#32 16#32))
      (Scalar.select (Scalar.cmpi CmpIPredicate.eq 16#32 0#32) 1#32 16#32))
    (IntOp.remsi ArithUnit.vector (BitVec.ofNat 32 (lane y x).val)
      (Scalar.select (Scalar.cmpi CmpIPredicate.eq 16#32 0#32) 1#32 16#32)) = BitVec.ofNat 32 x.val := by decide +kernel

/-- A lane's quotient by sixteen, in the words the kernel computes. -/
theorem div_word : ∀ y x : Fin 16, Scalar.select (IntOp.andi
      (IntOp.cmpi CmpIPredicate.ne
        (IntOp.subi (BitVec.setWidth 32 (IntOp.cmpi CmpIPredicate.sgt (BitVec.ofNat 32 (lane y x).val) 0#32))
          (BitVec.setWidth 32 (IntOp.cmpi CmpIPredicate.slt (BitVec.ofNat 32 (lane y x).val) 0#32)))
        (Scalar.subi (Scalar.extui (Scalar.cmpi CmpIPredicate.sgt 16#32 0#32)) (Scalar.extui (Scalar.cmpi CmpIPredicate.slt 16#32 0#32))))
      (IntOp.cmpi CmpIPredicate.ne (IntOp.remsi ArithUnit.vector (BitVec.ofNat 32 (lane y x).val) 16#32) 0#32))
    (IntOp.subi (IntOp.divsi ArithUnit.vector (BitVec.ofNat 32 (lane y x).val) 16#32) 1#32)
    (IntOp.divsi ArithUnit.vector (BitVec.ofNat 32 (lane y x).val) 16#32) = BitVec.ofNat 32 y.val := by decide +kernel

theorem rem_at (y x : Fin 16) : k0_pay31 (F := Ideal) (iota Kind.tc S1x1x256 32 [2] iota_S1x1x256_d2_w32) (ix3 0 0 (lane y x)) = ((x.val : ℝ) : EReal) := by
  pointwise [k0_pay31]
  rw [rem_word]
  exact sitofp_nat x.val (by omega)

theorem div_at (y x : Fin 16) : k0_pay30 (F := Ideal) k0_pay27 k0_pay28 k0_pay29 (ix3 0 0 (lane y x)) = ((y.val : ℝ) : EReal) := by
  pointwise [k0_pay30, k0_pay27, k0_pay28, k0_pay29]
  rw [div_word]
  exact sitofp_nat y.val (by omega)

theorem mid_eq (x : Fin 16) : ((x.val : ℝ) : EReal) - Ideal.ofBits .f32 0x40F00000#32 = ((mid x : ℝ) : EReal) := by
  rw [Nums.sevenhalf, ← EReal.coe_sub]; rfl

/-- The six powers of a pixel's place. -/
theorem place6_at (b : Fin 14) (r : Fin 6) (y x : Fin 16) : place6 (ix3 b r (lane y x))
    = (![1, ((mid x : ℝ) : EReal), ((mid x * mid x : ℝ) : EReal), ((mid y : ℝ) : EReal), ((mid y * mid y : ℝ) : EReal), ((mid x * mid y : ℝ) : EReal)] : Fin 6 → EReal) r := by
  simp only [EReal.coe_mul, ← mid_eq, ← rem_at y x, ← div_at y x]
  pointwise [place6, k0_pay32]
  fin_cases r <;> rfl

/-- The guide of the block row, read in the guide's blocks. -/
theorem guideRow_at (i : grid0.Coords) (a : Fin 14) (ha : (i 0).val = a.val) (x5 : Vec Ideal S196x3x256 .f32) (b : Fin 14) (ch : Fin 3) (p : Fin 256) :
    guideRow i x5 (ix3 b ch p) = x5 (ix3 (cell a b) ch p) := by
  have h0 : ∀ h, (⟨k0_off1 i 0 + b.val, h⟩ : Fin 196) = cell a b := by
    intro h; refine Fin.ext ?_
    show (IntOp.muli (BitVec.ofNat 32 (i 0).val) 14#32).toNat + b.val = _
    rw [ha]; clear h ha; revert a b; decide +kernel
  pointwise [guideRow, k0_pay8]
  rw [h0]
  exact congrArg₂ (fun q r => x5 (ix3 (cell a b) q r)) (Fin.ext (Nat.zero_add _)) (Fin.ext (Nat.zero_add _))

/-- The weights of the columns. -/
theorem wcol_at (j b : Fin 14) (y x : Fin 16) : wcol (ix3 j b (lane y x)) = wgt (centre (pix b x)) j := by
  have hb : FloatOps.sitofp (F := Ideal) .f32 (BitVec.ofNat 32 b.val) = ((b.val : ℝ) : EReal) := sitofp_nat b.val (by omega)
  pointwise [wcol, k0_pay38]
  rw [rem_at, hb]
  simp only [hat_eq]
  rfl

/-- The scales resampled along the rows. -/
theorem qrow_at (i : grid0.Coords) (a : Fin 14) (ha : (i 0).val = a.val) (x4 : Vec Ideal S14x14 .f32) (b : Fin 14) (y x : Fin 16) :
    qrow i x4 (ix3 b 0 (lane y x)) = ∑ j : Fin 14, x4 (ix2 j b) * wgt (centre (pix a y)) j := by
  pointwise [qrow, k0_pay39, k0_pay37]
  rw [div_at, pay1_at i a ha]
  simp only [hat_eq]
  rfl

/-- A cell's guide: a quarter of each of the four pixels around its middle. -/
def low (x5 : Vec Ideal S196x3x256 .f32) (c : Fin 196) (ch : Fin 3) : EReal :=
  ((1 / 4 : ℝ) : EReal) * (x5 (ix3 c ch 119) + x5 (ix3 c ch 120) + x5 (ix3 c ch 135) + x5 (ix3 c ch 136))

/-- The parameters of a cell. -/
theorem tab_at (x2 : Vec Ideal S4x196 .f32) (x5 : Vec Ideal S196x3x256 .f32) (c : Fin 196) :
    tab x2 x5 (ix2 0 c) = Ideal.cos (ang (x2 (ix2 2 c))) * Ideal.cos (ang (x2 (ix2 2 c))) * iso (x2 (ix2 0 c))
          + Ideal.sin (ang (x2 (ix2 2 c))) * Ideal.sin (ang (x2 (ix2 2 c))) * iso (x2 (ix2 1 c))
    ∧ tab x2 x5 (ix2 1 c) = Ideal.sin (ang (x2 (ix2 2 c))) * Ideal.sin (ang (x2 (ix2 2 c))) * iso (x2 (ix2 0 c))
          + Ideal.cos (ang (x2 (ix2 2 c))) * Ideal.cos (ang (x2 (ix2 2 c))) * iso (x2 (ix2 1 c))
    ∧ tab x2 x5 (ix2 2 c) = Ideal.cos (ang (x2 (ix2 2 c))) * Ideal.sin (ang (x2 (ix2 2 c))) * (iso (x2 (ix2 0 c)) - iso (x2 (ix2 1 c)))
    ∧ tab x2 x5 (ix2 3 c) = iso (x2 (ix2 3 c))
    ∧ tab x2 x5 (ix2 4 c) = low x5 c 0 ∧ tab x2 x5 (ix2 5 c) = low x5 c 1 ∧ tab x2 x5 (ix2 6 c) = low x5 c 2
    ∧ tab x2 x5 (ix2 7 c) = low x5 c 0 * low x5 c 0 + low x5 c 1 * low x5 c 1 + low x5 c 2 * low x5 c 2 := by
  unfold iso dev ang low
  rw [← Nums.quarter, ← Nums.pi, ← Nums.two, ← Nums.micro, ← Nums.nano]
  refine ⟨?_, ?_, ?_, ?_, ?_, ?_, ?_, ?_⟩ <;> pointwise [tab, k0_pay7, k0_pay2, k0_pay3, k0_pay4, k0_pay5, k0_pay6]

end Cert.KernelIdeal.Value

end
-- ==== Proof.KTail.lean ====
/- What the kernel makes of the logarithms of the weights: the softmax over the offsets and the weighted sums. -/
module

public import proofs.«01_k».proof.Proof.Gen.KernelIdeal.Frame
public import Idealize.ShloMosaic.Lib.Pipeline.ValueKit
public import Idealize.ShloMosaic.Lib.Pointwise
public import proofs.«01_k».proof.Proof.Nums
public import proofs.«01_k».proof.Proof.Spec

@[expose] public section

set_option maxRecDepth 16384

noncomputable section

namespace Cert.KernelIdeal.Value

open Idealize.ShloMosaic Idealize.ShloMosaic.TcCoe Idealize.SL.Sem
open Cert.KernelIdeal Cert.KernelIdeal.Gen Cert.Spec

/-- The window radius of every pixel of the block row, before it is rounded to a penalty: twice the resampled scale,
rounded up and clipped to one, two or three. -/
def radius (w : FVec Ideal S14x14x256 .f32) (q : FVec Ideal S14x1x256 .f32) : FVec Ideal S14x256 .f32 :=
  minimumf (broadcast S14x256 (Scalar.ofBits .f32 0x40400000#32)) (maximumf (broadcast S14x256 (Scalar.ofBits .f32 0x3F800000#32))
    (ceil (mulf (broadcast S14x256 (Scalar.ofBits .f32 0x40000000#32))
      (multiReduction .add [0] S14x256 (mulf w (broadcastTo S14x14x256 q broadcasts_S14x1x256_S14x14x256)) 0x00000000#32
        reduces_S14x14x256_S14x256 (.inl rfl) rfl))))

/-- The penalty of the offsets that need the radius whose pattern is `b`: nothing where the radius reaches it, the mask
elsewhere. -/
def penalty (b : BitVec 32) (rf : FVec Ideal S14x256 .f32) : FVec Ideal S14x1x256 .f32 :=
  shapeCast S14x1x256 (select (cmpf .oge rf (broadcast S14x256 (Scalar.ofBits .f32 b)))
    (broadcast S14x256 (Scalar.ofBits .f32 0x00000000#32 : Ideal .f32))
    (broadcast S14x256 (Named.named κ "mask" 0xF149F2CA#32 : Ideal .f32))) shapeCasts_S14x256_S14x1x256

/-- The logarithms of the weights: the coefficients of every offset against the twelve basis functions of a pixel. -/
def logw (v190 : FVec Ideal S14x29x12 .f32) (v244 : FVec Ideal S14x6x256 .f32) (v245 v246 v247 v252 p2 p3 : FVec Ideal S14x1x256 .f32) :
    FVec Ideal S14x29x256 .f32 :=
  matmul dot_S14x29x12_S14x12x256_S14x29x256_2_1_1_2_0_0 (some .fp32) v190
    (concatenate S14x12x256 1 [⟨S14x6x256, v244⟩, ⟨S14x1x256, v252⟩, ⟨S14x1x256, v245⟩, ⟨S14x1x256, v246⟩, ⟨S14x1x256, v247⟩,
      ⟨S14x1x256, p2⟩, ⟨S14x1x256, p3⟩] concatenates_S14x6x256_S14x1x256_S14x1x256_S14x1x256_S14x1x256_S14x1x256_S14x1x256_S14x12x256_d1) (constant S14x29x256 .f32 0x00000000#32)

/-- The exponentials of the logarithms, each less the largest of its pixel. -/
def expw (l : FVec Ideal S14x29x256 .f32) : FVec Ideal S14x29x256 .f32 :=
  exp (subf l (broadcastTo S14x29x256 (shapeCast S14x1x256 (multiReduction .maximumf [1] S14x256 l 0xFF800000#32
    reduces_S14x29x256_S14x256 (.inl rfl) rfl) shapeCasts_S14x256_S14x1x256) broadcasts_S14x1x256_S14x29x256))

/-- The weights: the exponentials times the reciprocal of their sum. -/
def weights (s : FVec Ideal S14x29x256 .f32) : FVec Ideal S14x29x256 .f32 :=
  mulf s (broadcastTo S14x29x256 (divf (broadcast S14x1x256 (Scalar.ofBits .f32 0x3F800000#32))
    (maximumf (shapeCast S14x1x256 (multiReduction .add [1] S14x256 s 0x00000000#32 reduces_S14x29x256_S14x256 (.inl rfl) rfl)
      shapeCasts_S14x256_S14x1x256) (broadcast S14x1x256 (Scalar.ofBits .f32 0x322BCC77#32)))) broadcasts_S14x1x256_S14x29x256)

/-- The block row written: the weighted sums of the features, pixels in the order of the output's rows. -/
def mixed (sn : FVec Ideal S14x29x256 .f32) (v109 : FVec Ideal S406x96 .f32) : FVec Ideal S3584x96 .f32 :=
  shapeCast S3584x96 (transpose S16x14x16x96 [1, 0, 2, 3] (shapeCast S14x16x16x96
    (matmul dot_S14x29x256_S14x29x96_S14x256x96_1_1_2_2_0_0 none sn (shapeCast S14x29x96 v109 shapeCasts_S406x96_S14x29x96)
      (constant S14x256x96 .f32 0x00000000#32)) shapeCasts_S14x256x96_S14x16x16x96) transposes_S14x16x16x96_p1_0_2_3_S16x14x16x96)
    shapeCasts_S16x14x16x96_S3584x96

/-- What the kernel writes is the composition of the stages. -/
theorem pay40_eq (v109 v190 v244 v245 v246 v247 v252 v302 v307) :
    k0_pay40 (F := Ideal) v109 v190 v244 v245 v246 v247 v252 v302 v307
      = mixed (weights (expw (logw v190 v244 v245 v246 v247 v252
          (penalty 0x40000000#32 (radius v302 v307)) (penalty 0x40400000#32 (radius v302 v307))))) v109 := rfl

theorem radius_at (w q b p) : radius w q (ix2 b p)
    = min ((3 : ℝ) : EReal) (max 1 (Ideal.liftRound Int.ceil (((2 : ℝ) : EReal) * ∑ x, w (ix3 x b p) * q (ix3 x 0 p)))) := by
  rw [← Nums.three, ← Nums.two]
  pointwise [radius]

theorem penalty_at (c : BitVec 32) (rf b p) : penalty c rf (ix3 b 0 p) = if Ideal.ofBits .f32 c ≤ rf (ix2 b p) then 0 else ⊥ := by
  rw [← (IdealRules.named_const.ideal_named_scalar _ _ _ _ rfl : (Named.named (F := Ideal) κ "mask" 0xF149F2CA#32 : Ideal .f32) = (⊥ : EReal))]
  pointwise [penalty]

theorem logw_at (v190 v244 v245 v246 v247 v252 p2 p3 b n p) : logw v190 v244 v245 v246 v247 v252 p2 p3 (ix3 b n p)
    = ∑ x : Fin 12, v190 (ix3 b n x) * (![v244 (ix3 b 0 p), v244 (ix3 b 1 p), v244 (ix3 b 2 p), v244 (ix3 b 3 p), v244 (ix3 b 4 p), v244 (ix3 b 5 p),
        v252 (ix3 b 0 p), v245 (ix3 b 0 p), v246 (ix3 b 0 p), v247 (ix3 b 0 p), p2 (ix3 b 0 p), p3 (ix3 b 0 p)] : Fin 12 → EReal) x := by
  pointwise [logw]
  exact Finset.sum_congr rfl fun x _ => by fin_cases x <;> rfl

theorem expw_at (l b n p) : expw l (ix3 b n p)
    = Ideal.exp (l (ix3 b n p) - Finset.fold max (⊥ : EReal) (fun x : Fin 29 => l (ix3 b x p)) Finset.univ) := by
  rw [← Nums.neginf]
  pointwise [expw]

theorem weights_at (l b n p) : weights l (ix3 b n p) = l (ix3 b n p) * Ideal.div 1 (max (∑ x, l (ix3 b x p)) ((Nums.e8 : ℝ) : EReal)) := by
  rw [← Nums.nano]
  pointwise [weights]

theorem mixed_at (l f) (r : Fin 3584) (ch : Fin 96) (y x : Fin 16) (b : Fin 14) (hr : r.val = y.val * 224 + b.val * 16 + x.val) :
    mixed l f (ix2 r ch) = ∑ k : Fin 29, l (ix3 b k (lane y x)) * f (ix2 (row b k) ch) := by
  pointwise [mixed]
  have h1 : (⟨r.val / 16 % 14, by omega⟩ : Fin 14) = b := Fin.ext (by simp only []; omega)
  have h2 : (⟨r.val / 224 * 16 + r.val % 16, by omega⟩ : Fin 256) = lane y x := Fin.ext (by simp only [lane]; omega)
  refine Finset.sum_congr rfl fun k _ => ?_
  rw [h1, h2]
  refine congrArg (fun z => l (ix3 b k (lane y x)) * f (ix2 z ch)) (Fin.ext ?_)
  simp only [row]
  have := congrArg Fin.val h1
  simp only [] at this
  omega

end Cert.KernelIdeal.Value

end
-- ==== Proof.Soft.lean ====
/- The softmax over the window's 49 offsets, of which the kernel forms only the 29 that can count; and which of them a pixel's radius admits. -/
module

public import proofs.«01_k».proof.Proof.Weight

@[expose] public section

set_option maxRecDepth 16384

noncomputable section

namespace Cert.Spec

open Idealize.ShloMosaic

/-- The radius of a pixel's window: rounded up, at least one and at most three. -/
def rad (z : EReal) : EReal := min ((3 : ℝ) : EReal) (max 1 (Ideal.liftRound Int.ceil z))

theorem rad_cases (z : EReal) : ∃ r : ℤ, (r = 1 ∨ r = 2 ∨ r = 3) ∧ rad z = ((r : ℝ) : EReal) := by
  unfold rad
  have h1 : (1 : EReal) = ((1 : ℝ) : EReal) := rfl
  induction z with
  | bot => refine ⟨1, Or.inl rfl, ?_⟩
           rw [Ideal.liftRound_bot, max_eq_left bot_le, h1, coe_min]; norm_num
  | top => refine ⟨3, Or.inr (Or.inr rfl), ?_⟩
           rw [Ideal.liftRound_top, max_eq_right le_top, min_eq_left le_top]; norm_num
  | coe r => refine ⟨min 3 (max 1 ⌈r⌉), by omega, ?_⟩
             rw [Ideal.liftRound_coe, h1, coe_max, coe_min]; push_cast; rfl

/-- The radius of a pixel's window as a whole number. -/
def radn (z : EReal) : ℤ := (rad_cases z).choose
theorem radn_cases (z : EReal) : radn z = 1 ∨ radn z = 2 ∨ radn z = 3 := (rad_cases z).choose_spec.1
theorem rad_eq (z : EReal) : rad z = ((radn z : ℝ) : EReal) := (rad_cases z).choose_spec.2

/-- Offset `n` lies in the window of a pixel whose scale is `z`. -/
def within (n : Fin 49) (z : EReal) : Prop := dist2 n ≤ radn z * radn z

instance (n : Fin 49) (z : EReal) : Decidable (within n z) := inferInstanceAs (Decidable (dist2 n ≤ radn z * radn z))

theorem within_iff (n : Fin 49) (z : EReal) : within n z ↔ dist2 n ≤ radn z * radn z := Iff.rfl

theorem dist2_offs : ∀ k : Fin 29, dist2 (offs k) ≤ 9 ∧ (dist2 (offs k) ≤ 1 ∨ 1 < dist2 (offs k)) := by
  unfold dist2; decide +kernel

/-- The two penalties of a kept offset let it count where it lies in the window. -/
theorem mask_kernel (k : Fin 29) (z L : EReal) :
    L + (if 1 < dist2 (offs k) ∧ dist2 (offs k) ≤ 4 then (1 : EReal) else 0) * (if Ideal.ofBits .f32 0x40000000#32 ≤ rad z then 0 else ⊥)
      + (if 4 < dist2 (offs k) then (1 : EReal) else 0) * (if Ideal.ofBits .f32 0x40400000#32 ≤ rad z then 0 else ⊥)
    = if within (offs k) z then L else ⊥ := by
  have h9 := (dist2_offs k).1
  rw [rad_eq, Nums.two, Nums.three]
  have e2 : (((2 : ℝ) : EReal) ≤ ((radn z : ℝ) : EReal)) ↔ 2 ≤ radn z := by rw [EReal.coe_le_coe_iff]; exact_mod_cast Iff.rfl
  have e3 : (((3 : ℝ) : EReal) ≤ ((radn z : ℝ) : EReal)) ↔ 3 ≤ radn z := by rw [EReal.coe_le_coe_iff]; exact_mod_cast Iff.rfl
  simp only [e2, e3, within_iff]
  have hr := radn_cases z
  generalize radn z = r at hr
  generalize dist2 (offs k) = d at h9
  rcases hr with h | h | h <;> subst h <;> split_ifs <;> first | (exfalso; omega) | simp

theorem radn_word (z : EReal) : FloatOps.fptosi (F := Ideal) (φ := .f32) 32 (rad z) = BitVec.ofInt 32 (radn z) := by
  show Ideal.fptosi 32 (rad z) = _
  rw [rad_eq, Ideal.fptosi, Ideal.toIntClamped_coe]
  rcases radn_cases z with h | h | h <;> rw [h] <;> norm_num

theorem within_word : ∀ n : Fin 49, ∀ r : Fin 4, (IntOp.cmpi .sle
      (IntOp.addi (IntOp.muli (BitVec.ofNat 32 (dyF n).val - 3#32) (BitVec.ofNat 32 (dyF n).val - 3#32))
        (IntOp.muli (BitVec.ofNat 32 (dxF n).val - 3#32) (BitVec.ofNat 32 (dxF n).val - 3#32)))
      (IntOp.muli (BitVec.ofInt 32 r.val) (BitVec.ofInt 32 r.val))) = BitVec.ofBool (decide (dist2 n ≤ (r.val : ℤ) * r.val)) := by
  unfold dist2; decide +kernel

/-- The comparison of the reference lets an offset count where it lies in the window. -/
theorem mask_ref (n : Fin 49) (z L M : EReal) : Scalar.select (IntOp.cmpi .sle
      (IntOp.addi (IntOp.muli (BitVec.ofNat 32 (dyF n).val - 3#32) (BitVec.ofNat 32 (dyF n).val - 3#32))
        (IntOp.muli (BitVec.ofNat 32 (dxF n).val - 3#32) (BitVec.ofNat 32 (dxF n).val - 3#32)))
      (IntOp.muli (FloatOps.fptosi (F := Ideal) (φ := .f32) 32 (rad z)) (FloatOps.fptosi (F := Ideal) (φ := .f32) 32 (rad z)))) L M
    = if within n z then L else M := by
  obtain ⟨r, hr⟩ : ∃ r : Fin 4, ((r.val : ℕ) : ℤ) = radn z := by
    rcases radn_cases z with h | h | h
    · exact ⟨1, h.symm⟩
    · exact ⟨2, h.symm⟩
    · exact ⟨3, h.symm⟩
  rw [radn_word, ← hr, within_word]
  simp only [within_iff, ← hr]
  unfold Scalar.select
  by_cases h : dist2 n ≤ (r.val : ℤ) * r.val <;> simp [h]

/-- An offset that the kernel leaves out lies in no window. -/
theorem not_within (n : Fin 49) (h : ∀ k, offs k ≠ n) (z : EReal) : ¬ within n z := by
  have := dist2_of_not_mem n h
  unfold within
  rcases radn_cases z with h | h | h <;> rw [h] <;> omega

/-- A sum over the window in which the offsets left out vanish. -/
theorem sum_offs (f : Fin 49 → EReal) (h : ∀ n, (∀ k, offs k ≠ n) → f n = 0) : ∑ n, f n = ∑ k : Fin 29, f (offs k) := by
  rw [← Finset.sum_image (s := Finset.univ) (g := offs) (f := f) fun a _ b _ e => offs_injective e]
  refine (Finset.sum_subset (Finset.subset_univ _) fun n _ hn => h n fun k hk => hn ?_).symm
  exact Finset.mem_image.2 ⟨k, Finset.mem_univ _, hk⟩

/-- A largest value over the window in which the offsets left out are least. -/
theorem max_offs (f : Fin 49 → EReal) (h : ∀ n, (∀ k, offs k ≠ n) → f n = ⊥) :
    Finset.fold max ⊥ f Finset.univ = Finset.fold max ⊥ (fun k : Fin 29 => f (offs k)) Finset.univ := by
  change Finset.univ.sup f = Finset.univ.sup fun k : Fin 29 => f (offs k)
  refine le_antisymm (Finset.sup_le fun n _ => ?_) (Finset.sup_le fun k _ => Finset.le_sup (f := f) (Finset.mem_univ _))
  by_cases hn : ∀ k, offs k ≠ n
  · rw [h n hn]; exact bot_le
  · obtain ⟨k, hk⟩ := not_forall.1 hn
    rw [← not_not.1 hk]
    exact Finset.le_sup (f := fun k : Fin 29 => f (offs k)) (Finset.mem_univ k)

theorem sum_mul_right {ι : Type} (s : Finset ι) (f : ι → EReal) (w : EReal) (h0 : 0 ≤ w) (h1 : w ≠ ⊤) :
    (∑ i ∈ s, f i) * w = ∑ i ∈ s, f i * w := by
  classical
  induction s using Finset.induction_on with
  | empty => simp
  | insert i s hi ih => rw [Finset.sum_insert hi, Finset.sum_insert hi, mul_comm, EReal.left_distrib_of_nonneg_of_ne_top h0 h1,
      mul_comm w, mul_comm w, ih]

/-- The weighted mean over the window: the kernel's sum over the offsets it keeps is the reference's over all. -/
theorem soft (L f : Fin 49 → EReal) (h : ∀ n, (∀ k, offs k ≠ n) → L n = ⊥) :
    ∑ k : Fin 29, (Ideal.exp (L (offs k) - Finset.fold max ⊥ (fun k : Fin 29 => L (offs k)) Finset.univ)
        * Ideal.div 1 (max (∑ j : Fin 29, Ideal.exp (L (offs j) - Finset.fold max ⊥ (fun k : Fin 29 => L (offs k)) Finset.univ)) ((Nums.e8 : ℝ) : EReal))) * f (offs k)
    = Ideal.div (∑ n, f n * (if ⊥ < L n then Ideal.exp (L n - Finset.fold max ⊥ L Finset.univ) else 0))
        (max (∑ n, if ⊥ < L n then Ideal.exp (L n - Finset.fold max ⊥ L Finset.univ) else 0) ((Nums.e8 : ℝ) : EReal)) := by
  rw [← max_offs L h]
  generalize Finset.fold max ⊥ L Finset.univ = M
  have hs : ∀ n, (if ⊥ < L n then Ideal.exp (L n - M) else 0) = Ideal.exp (L n - M) := fun n => by
    split
    · rfl
    · rename_i hn
      rw [not_bot_lt_iff.1 hn, EReal.bot_sub, Ideal.exp_bot]
  have hz : ∀ n, (∀ k, offs k ≠ n) → Ideal.exp (L n - M) = 0 := fun n hn => by rw [h n hn, EReal.bot_sub, Ideal.exp_bot]
  simp only [hs]
  rw [sum_offs (fun n => Ideal.exp (L n - M)) hz, sum_offs (fun n => f n * Ideal.exp (L n - M)) fun n hn => by rw [hz n hn, mul_zero]]
  generalize (∑ k : Fin 29, Ideal.exp (L (offs k) - M)) = D
  have hm : ((Nums.e8 : ℝ) : EReal) ≤ max D ((Nums.e8 : ℝ) : EReal) := le_max_right _ _
  have hpos : 0 < max D ((Nums.e8 : ℝ) : EReal) := lt_of_lt_of_le (by exact_mod_cast Nums.e8_pos) hm
  generalize max D ((Nums.e8 : ℝ) : EReal) = E at hpos
  have hd : ∀ y : EReal, Ideal.div y E = y * E⁻¹ := fun y => by unfold Ideal.div; rw [if_neg hpos.ne']
  have hw : 0 ≤ E⁻¹ ∧ E⁻¹ ≠ ⊤ := by
    refine ⟨EReal.inv_nonneg_of_nonneg hpos.le, ?_⟩
    induction E with
    | bot => exact absurd hpos (by simp)
    | top => rw [EReal.inv_top]; exact EReal.zero_ne_top
    | coe r => rw [← EReal.coe_inv]; exact EReal.coe_ne_top _
  rw [hd, hd, one_mul, sum_mul_right _ _ _ hw.1 hw.2]
  refine Finset.sum_congr rfl fun k _ => ?_
  rw [mul_right_comm, mul_comm (Ideal.exp _)]

/-- The weight of one offset among all, before division by their sum. -/
def wexp (L : Fin 49 → EReal) (n : Fin 49) : EReal :=
  if ⊥ < L n then Ideal.exp (L n - Finset.fold max ⊥ L Finset.univ) else 0
/-- A weighted mean, over a sum kept away from zero. -/
def mean (f w : Fin 49 → EReal) : EReal := Ideal.div (∑ n, f n * w n) (max (∑ n, w n) ((Nums.e8 : ℝ) : EReal))

/-- The softmax over the offsets, as a weighted mean over the whole window. -/
theorem soft_mean (L f : Fin 49 → EReal) (h : ∀ n, (∀ k, offs k ≠ n) → L n = ⊥) :
    ∑ k : Fin 29, (Ideal.exp (L (offs k) - Finset.fold max ⊥ (fun k : Fin 29 => L (offs k)) Finset.univ)
        * Ideal.div 1 (max (∑ j : Fin 29, Ideal.exp (L (offs j) - Finset.fold max ⊥ (fun k : Fin 29 => L (offs k)) Finset.univ)) ((Nums.e8 : ℝ) : EReal))) * f (offs k)
    = mean f (wexp L) := soft L f h

end Cert.Spec

end
-- ==== Proof.KVal.lean ====
/- A block row of the output as a weighted mean of the features, off the six blocks that the kernel reads. -/
module

public import proofs.«01_k».proof.Proof.KReads
public import proofs.«01_k».proof.Proof.KTail
public import proofs.«01_k».proof.Proof.Soft

/-! What one block of the kernel holds at an index, off the blocks it is given. -/

@[expose] public section

set_option maxRecDepth 16384

noncomputable section

namespace Cert.KernelIdeal.Value

open Idealize.ShloMosaic Idealize.ShloMosaic.TcCoe Idealize.SL.Sem
open Cert.KernelIdeal Cert.KernelIdeal.Gen Cert.Spec

/-- The logarithms of a block row's weights. -/
def logs (i : grid0.Coords) (x1 : Vec Ideal S5x406 .f32) (x2 : Vec Ideal S4x196 .f32) (x4 : Vec Ideal S14x14 .f32) (x5 : Vec Ideal S196x3x256 .f32) :
    FVec Ideal S14x29x256 .f32 :=
  logw (coefs i x1 (tab x2 x5)) place6 (k0_pay33 (guideRow i x5)) (k0_pay34 (guideRow i x5)) (k0_pay35 (guideRow i x5)) (k0_pay36 (guideRow i x5))
    (penalty 0x40000000#32 (radius wcol (qrow i x4))) (penalty 0x40400000#32 (radius wcol (qrow i x4)))

/-- A block row of the output. -/
def block (i : grid0.Coords) (x0 : Vec Ideal S406x4 .i32) (x1 : Vec Ideal S5x406 .f32) (x2 : Vec Ideal S4x196 .f32) (x3 : Vec Ideal S196x96 .f32)
    (x4 : Vec Ideal S14x14 .f32) (x5 : Vec Ideal S196x3x256 .f32) : FVec Ideal S3584x96 .f32 :=
  mixed (weights (expw (logs i x1 x2 x4 x5))) (feats i x0 x3)

/-- The row of a block row's output that a pixel has. -/
def brow (b : Fin 14) (y x : Fin 16) : Fin 3584 := ⟨y.val * 224 + b.val * 16 + x.val, by omega⟩

/-- The resampled scale of a pixel, doubled. -/
def reach (x4 : Vec Ideal S14x14 .f32) (Y X : Fin 224) : EReal :=
  ((2 : ℝ) : EReal) * ∑ j : Fin 14, wgt (centre X) j * ∑ i : Fin 14, x4 (ix2 i j) * wgt (centre Y) i

/-- The exponent of an offset of a pixel, off the blocks. -/
def lexp (x2 : Vec Ideal S4x196 .f32) (x5 : Vec Ideal S196x3x256 .f32) (a b : Fin 14) (y x : Fin 16) (n : Fin 49) : EReal :=
  expo (x2 (ix2 0 (cell (clampC a (dyF n)) (clampC b (dxF n))))) (x2 (ix2 1 (cell (clampC a (dyF n)) (clampC b (dxF n)))))
    (x2 (ix2 2 (cell (clampC a (dyF n)) (clampC b (dxF n))))) (x2 (ix2 3 (cell (clampC a (dyF n)) (clampC b (dxF n)))))
    (fun ch => x5 (ix3 (cell a b) ch (lane y x))) (low x5 (cell (clampC a (dyF n)) (clampC b (dxF n))))
    (mid x - 16 * (((clampC b (dxF n)).val : ℝ) - b.val)) (mid y - 16 * (((clampC a (dyF n)).val : ℝ) - a.val))

variable (i : grid0.Coords) (a : Fin 14) (ha : (i 0).val = a.val) (x2 : Vec Ideal S4x196 .f32) (x3 : Vec Ideal S196x96 .f32)
  (x4 : Vec Ideal S14x14 .f32) (x5 : Vec Ideal S196x3x256 .f32)
include ha

/-- The logarithm of an offset's weight: its exponent, least outside the window. -/
theorem logs_at (b : Fin 14) (k : Fin 29) (y x : Fin 16) : logs i T1 x2 x4 x5 (ix3 b k (lane y x))
    = if within (offs k) (reach x4 (pix a y) (pix b x)) then lexp x2 x5 a b y x (offs k) else ⊥ := by
  unfold logs
  have hr : radius wcol (qrow i x4) (ix2 b (lane y x)) = rad (reach x4 (pix a y) (pix b x)) := by
    rw [radius_at]
    simp only [wcol_at, qrow_at i a ha]
    rfl
  have h33 : k0_pay33 (guideRow i x5) (ix3 b 0 (lane y x)) = x5 (ix3 (cell a b) 0 (lane y x)) := by
    pointwise [k0_pay33]
    exact guideRow_at i a ha x5 b 0 _
  have h34 : k0_pay34 (guideRow i x5) (ix3 b 0 (lane y x)) = x5 (ix3 (cell a b) 1 (lane y x)) := by
    pointwise [k0_pay34]
    exact guideRow_at i a ha x5 b 1 _
  have h35 : k0_pay35 (guideRow i x5) (ix3 b 0 (lane y x)) = x5 (ix3 (cell a b) 2 (lane y x)) := by
    pointwise [k0_pay35]
    exact guideRow_at i a ha x5 b 2 _
  have h36 : k0_pay36 (guideRow i x5) (ix3 b 0 (lane y x)) = (x5 (ix3 (cell a b) 0 (lane y x)) * x5 (ix3 (cell a b) 0 (lane y x))
      + x5 (ix3 (cell a b) 1 (lane y x)) * x5 (ix3 (cell a b) 1 (lane y x)) + x5 (ix3 (cell a b) 2 (lane y x)) * x5 (ix3 (cell a b) 2 (lane y x)) : EReal) := by
    rw [← h33, ← h34, ← h35]
    pointwise [k0_pay36]
  obtain ⟨t0, t1, t2, t3, t4, t5, t6, t7⟩ := tab_at x2 x5 (cell (clampC a (dyF (offs k))) (clampC b (dxF (offs k))))
  rw [logw_at, penalty_at, penalty_at, hr, h33, h34, h35, h36]
  simp only [coefs_at i a ha b k (tab x2 x5) _ _ _ _ _ _ _ _ _ _ _ rfl rfl rfl rfl rfl rfl t4 t5 t6 t7, place6_at, ← EReal.coe_sub]
  rw [← mask_kernel]
  exact twelve _ _ _ _ (fun ch => x5 (ix3 (cell a b) ch (lane y x))) (low x5 _) (mid x) (mid y) _ _ _ _ _ _ _ _ _ _ t0 t1 t2 t3

/-- A block row of the output is the weighted mean of the features over the window of each pixel. -/
theorem block_at (b : Fin 14) (y x : Fin 16) (ch : Fin 96) : block i T0 T1 x2 x3 x4 x5 (ix2 (brow b y x) ch)
    = mean (fun n => x3 (ix2 (cell (clampC a (dyF n)) (clampC b (dxF n))) ch))
        (wexp fun n => if within n (reach x4 (pix a y) (pix b x)) then lexp x2 x5 a b y x n else ⊥) := by
  unfold block
  rw [mixed_at _ _ _ ch y x b rfl]
  simp only [weights_at, expw_at, logs_at i a ha, feats_at i a ha]
  exact soft_mean (fun n => if within n (reach x4 (pix a y) (pix b x)) then lexp x2 x5 a b y x n else ⊥)
    (fun n => x3 (ix2 (cell (clampC a (dyF n)) (clampC b (dxF n))) ch)) fun n h => if_neg (not_within n h _)

end Cert.KernelIdeal.Value

end
-- ==== Proof.KBlock.lean ====
/- Which blocks a grid step reads and writes. -/
module

public import proofs.«01_k».proof.Proof.KVal

/-! The kernel's windows: what each grid point is shown. -/

@[expose] public section

set_option maxRecDepth 16384

noncomputable section

namespace Cert.KernelIdeal.Value

open Idealize.ShloMosaic Idealize.ShloMosaic.TcCoe Idealize.SL.Sem
open Idealize.ShloMosaic.Pipeline (Dat)
open Cert.KernelIdeal Cert.KernelIdeal.Gen Cert.Spec

variable (m : (ℓ : Loc nD τ sig) → Buf (Elt Ideal) ℓ) (c : Dev nD)

/-- Every window but the last is one block; the last moves by block rows. -/
theorem idx : ∀ t : Fin cfg0.N, win0_0.index t = ![0, 0] ∧ win0_1.index t = ![0, 0] ∧ win0_2.index t = ![0, 0] ∧ win0_3.index t = ![0, 0]
    ∧ win0_4.index t = ![0, 0] ∧ win0_5.index t = ![0, 0, 0] ∧ win0_6.index t = ![t.val, 0] ∧ (grid0.coords t 0).val = t.val :=
  (by decide +kernel : ∀ t : Fin grid0.N, _)

theorem w0 (t : Fin cfg0.N) : iblk m c 0 t = V m c main_c := by
  blk_ext! [iblk, idx t]
theorem w1 (t : Fin cfg0.N) : iblk m c 1 t = V m c main_cst := by
  blk_ext! [iblk, idx t]
theorem w2 (t : Fin cfg0.N) : iblk m c 2 t = V m c main_v9 := by
  blk_ext! [iblk, idx t]
theorem w3 (t : Fin cfg0.N) : iblk m c 3 t = V m c main_v12 := by
  blk_ext! [iblk, idx t]
theorem w4 (t : Fin cfg0.N) : iblk m c 4 t = V m c main_v4 := by
  blk_ext! [iblk, idx t]
theorem w5 (t : Fin cfg0.N) : iblk m c 5 t = V m c main_v16 := by
  blk_ext! [iblk, idx t]

end Cert.KernelIdeal.Value

end
-- ==== Proof.KOut.lean ====
/- What the kernel returns: the block rows together are the output array, which the host lays out by channel. -/
module

public import proofs.«01_k».proof.Proof.KBlock

/-! The kernel's windows: what each grid point is shown. -/

@[expose] public section

set_option maxRecDepth 16384

noncomputable section

namespace Cert.KernelIdeal.Value

open Idealize.ShloMosaic Idealize.ShloMosaic.TcCoe Idealize.SL.Sem
open Idealize.ShloMosaic.Pipeline (Dat)
open Cert.KernelIdeal Cert.KernelIdeal.Gen Cert.Spec

variable (m : (ℓ : Loc nD τ sig) → Buf (Elt Ideal) ℓ) (c : Dev nD)

theorem e0 : V m c main_c = T0 := by
  entry_read
  rfl
theorem e1 : V m c main_cst = T1 := by
  entry_read
  rfl

/-- The four rows of the cells' parameters. -/
theorem V_v9 : V m c main_v9 = concatenate S4x196 0 [⟨S1x196, shapeCast S1x196 (m ((c.tc : Thread nD τ).loc main_arg2)) shapeCasts_S1x1x14x14_S1x196⟩,
    ⟨S1x196, shapeCast S1x196 (m ((c.tc : Thread nD τ).loc main_arg3)) shapeCasts_S1x1x14x14_S1x196⟩,
    ⟨S1x196, shapeCast S1x196 (m ((c.tc : Thread nD τ).loc main_arg4)) shapeCasts_S1x1x14x14_S1x196⟩,
    ⟨S1x196, shapeCast S1x196 (m ((c.tc : Thread nD τ).loc main_arg5)) shapeCasts_S1x1x14x14_S1x196⟩] concatenates_S1x196_S1x196_S1x196_S1x196_S4x196_d0 := by
  unfold V V0
  simp only [List.flatten_cons, List.flatten_nil, List.append_nil]
  after_results
  rfl

theorem e2_0 (u v : Fin 14) : V m c main_v9 (ix2 0 (cell u v)) = m ((c.tc : Thread nD τ).loc main_arg2) (ix4 0 0 u v) := by
  rw [V_v9]
  pointwise []
  exact congrArg₂ (fun p q => m ((c.tc : Thread nD τ).loc main_arg2) (ix4 0 0 p q)) (Fin.ext (by simp only [cell]; omega)) (Fin.ext (by simp only [cell]; omega))
theorem e2_1 (u v : Fin 14) : V m c main_v9 (ix2 1 (cell u v)) = m ((c.tc : Thread nD τ).loc main_arg3) (ix4 0 0 u v) := by
  rw [V_v9]
  pointwise []
  exact congrArg₂ (fun p q => m ((c.tc : Thread nD τ).loc main_arg3) (ix4 0 0 p q)) (Fin.ext (by simp only [cell]; omega)) (Fin.ext (by simp only [cell]; omega))
theorem e2_2 (u v : Fin 14) : V m c main_v9 (ix2 2 (cell u v)) = m ((c.tc : Thread nD τ).loc main_arg4) (ix4 0 0 u v) := by
  rw [V_v9]
  pointwise []
  exact congrArg₂ (fun p q => m ((c.tc : Thread nD τ).loc main_arg4) (ix4 0 0 p q)) (Fin.ext (by simp only [cell]; omega)) (Fin.ext (by simp only [cell]; omega))
theorem e2_3 (u v : Fin 14) : V m c main_v9 (ix2 3 (cell u v)) = m ((c.tc : Thread nD τ).loc main_arg5) (ix4 0 0 u v) := by
  rw [V_v9]
  pointwise []
  exact congrArg₂ (fun p q => m ((c.tc : Thread nD τ).loc main_arg5) (ix4 0 0 p q)) (Fin.ext (by simp only [cell]; omega)) (Fin.ext (by simp only [cell]; omega))
theorem e3 (u v : Fin 14) (ch : Fin 96) : V m c main_v12 (ix2 (cell u v) ch) = m ((c.tc : Thread nD τ).loc main_arg0) (ix4 0 ch u v) := by
  unfold V V0
  simp only [List.flatten_cons, List.flatten_nil, List.append_nil]
  after_results
  pointwise []
  exact congrArg₂ (fun p q => m ((c.tc : Thread nD τ).loc main_arg0) (ix4 0 ch p q)) (Fin.ext (by simp only [cell]; omega)) (Fin.ext (by simp only [cell]; omega))
theorem e4 (u v : Fin 14) : V m c main_v4 (ix2 u v)
    = max (Ideal.exp (m ((c.tc : Thread nD τ).loc main_arg2) (ix4 0 0 u v))) (Ideal.exp (m ((c.tc : Thread nD τ).loc main_arg3) (ix4 0 0 u v))) := by
  unfold V V0
  simp only [List.flatten_cons, List.flatten_nil, List.append_nil]
  after_results
  pointwise []
theorem e5 (u v : Fin 14) (y x : Fin 16) (ch : Fin 3) : V m c main_v16 (ix3 (cell u v) ch (lane y x))
    = m ((c.tc : Thread nD τ).loc main_arg1) (ix4 0 ch (pix u y) (pix v x)) := by
  unfold V V0
  simp only [List.flatten_cons, List.flatten_nil, List.append_nil]
  after_results
  pointwise []
  exact congrArg₂ (fun p q => m ((c.tc : Thread nD τ).loc main_arg1) (ix4 0 ch p q)) (Fin.ext (by simp only [cell, lane, pix]; omega))
    (Fin.ext (by simp only [cell, lane, pix]; omega))

/-- The grid point of a block row. -/
def pt (a : Fin 14) : Fin cfg0.N := ⟨a.val, lt_of_lt_of_eq a.isLt (by decide +kernel)⟩

/-- What the output array holds. -/
def outArr : FVec Ideal S50176x96 .f32 := fun j =>
  block (grid0.coords (pt ⟨(j 0).val / 3584, by have h : (j 0).val < 50176 := (j 0).isLt; omega⟩)) T0 T1 (V m c main_v9) (V m c main_v12) (V m c main_v4) (V m c main_v16)
    (ix2 ⟨(j 0).val % 3584, Nat.mod_lt _ (by decide)⟩ (j 1))

theorem final : (dats m 0 c).arrAt 6 (cfgs 0).N = outArr m c := by
  refine (dats m 0 c).arrAt_eq_of_covers 6 _ (by decide +kernel) fun t _ y => ?_
  blk_simp
  rw [after0_6]
  unfold outsAt0
  frame_out
  have hb : ∀ z : S3584x96.Idx, block (grid0.coords t) (iblk m c 0 t) (iblk m c 1 t) (iblk m c 2 t) (iblk m c 3 t) (iblk m c 4 t) (iblk m c 5 t) z
      = outArr m c (((View.whole main_v17).slice (win0_6.rect t)).emb z) := fun z => by
    rw [w0, w1, w2, w3, w4, w5, e0, e1]
    unfold outArr
    have h0 : ((((View.whole main_v17).slice (win0_6.rect t)).emb z) 0).val = t.val * 3584 + (z 0).val := by
      blk_simp [idx t]
    have h1 : ((((View.whole main_v17).slice (win0_6.rect t)).emb z) 1) = z 1 := by
      refine Fin.ext ?_
      blk_simp [idx t]
    have hz : (z 0).val < 3584 := (z 0).isLt
    have h14 : t.val < 14 := lt_of_lt_of_eq t.isLt (by decide +kernel)
    have ht : t = pt ⟨((((View.whole main_v17).slice (win0_6.rect t)).emb z) 0).val / 3584, by omega⟩ := Fin.ext (by rw [pt]; simp only [h0]; omega)
    rw [← ht]
    refine congrArg (block _ _ _ _ _ _ _) ?_
    rw [h1]
    funext q
    fin_cases q
    · exact Fin.ext (by show (z 0).val = _ % 3584; rw [h0]; omega)
    · rfl
  exact hb y

/-- The run leaves, in the result, the output array laid out by channel. -/
theorem tail_eq : Pipeline.afterTail₀ cfgs (dats m) 0 (V0 m) [hostOps1] c main_v19
    = shapeCast S1x96x224x224 (transpose S96x50176 [1, 0] (outArr m c) transposes_S50176x96_S96x50176_1_0) shapeCasts_S96x50176_S1x96x224x224 := by
  unfold Pipeline.afterTail₀
  simp only [List.flatten_cons, List.flatten_nil, List.append_nil]
  after_results
  have hw : Pipeline.withArrays (cfgs 0).spec c (V0 m c) (fun w => (dats m 0 c).arrAt w (cfgs 0).N) (Proc.devRef .tc main_v17) = outArr m c :=
    (Pipeline.withArrays_arr spec0 (by decide) c (V0 m c) _ 6).trans (final m c)
  rw [hw]
  rfl

/-- What the kernel returns. -/
def result : FVec Ideal S1x96x224x224 .f32 :=
  shapeCast S1x96x224x224 (transpose S96x50176 [1, 0] (outArr m c) transposes_S50176x96_S96x50176_1_0) shapeCasts_S96x50176_S1x96x224x224

theorem result_at (a b : Fin 14) (y x : Fin 16) (ch : Fin 96) : result m c (ix4 0 ch (pix a y) (pix b x))
    = mean (fun n => V m c main_v12 (ix2 (cell (clampC a (dyF n)) (clampC b (dxF n))) ch))
        (wexp fun n => if within n (reach (V m c main_v4) (pix a y) (pix b x)) then lexp (V m c main_v9) (V m c main_v16) a b y x n else ⊥) := by
  have hi : (grid0.coords (pt a) 0).val = a.val := (idx (pt a)).2.2.2.2.2.2.2
  rw [← block_at _ a hi]
  pointwise [result]
  unfold outArr
  have h0 : pt ⟨((pix a y).val * 224 + (pix b x).val) / 3584, by have := (pix a y).isLt; have := (pix b x).isLt; omega⟩ = pt a :=
    Fin.ext (by simp only [pt, pix]; omega)
  have h1 : (⟨((pix a y).val * 224 + (pix b x).val) % 3584, Nat.mod_lt _ (by decide)⟩ : Fin 3584) = brow b y x :=
    Fin.ext (by simp only [brow, pix]; omega)
  exact congr (congrArg (fun t => block (grid0.coords t) T0 T1 (V m c main_v9) (V m c main_v12) (V m c main_v4) (V m c main_v16)) h0)
    (congrArg (fun r => ix2 r ch) h1)

end Cert.KernelIdeal.Value

end
-- ==== Proof.RForm.lean ====
/- The reference's whole numbers: the cell that an offset of a pixel leads to, and tables of the cells read there. -/
module

public import proofs.«01_k».proof.Proof.Gen.ReferenceIdeal.Run
public import Idealize.ShloMosaic.PureOps.Ideal
public import Idealize.ShloMosaic.Lib.Pipeline.ValueKit
public import Idealize.ShloMosaic.Lib.Pointwise
public import Idealize.ShloMosaic.Lib.Tactic.CleanTypes
public import proofs.«01_k».proof.Proof.Soft
public import proofs.«01_k».proof.Proof.Cell

@[expose] public section

set_option maxRecDepth 16384

noncomputable section

namespace Cert.ReferenceIdeal.Value

open Idealize.ShloMosaic Idealize.ShloMosaic.TcCoe Idealize.SL.Sem
open Cert.ReferenceIdeal Cert.ReferenceIdeal.Gen Cert.Spec

/-- A table of the cells read at a cell's number, which is never out of range. -/
theorem gather_cell (x : FVec Ideal S196 .f32) (idx : IVec S49x224x224x1 32) (n : Fin 49) (Y X : Fin 224) (q : Fin 196)
    (h : idx (ix4 n Y X 0) = BitVec.ofNat 32 q.val) :
    Host.gather gather_S196_S49x224x224x1_S49x224x224_n_0_n_n_0_3_1 x idx (ix3 n Y X) = x (ix1 q) := by
  refine congrArg x (funext fun a => ?_)
  have ha : a = (0 : Fin 1) := Subsingleton.elim _ _
  subst ha
  refine Fin.ext ?_
  have hs : GatherDims.siIdx gather_S196_S49x224x224x1_S49x224x224_n_0_n_n_0_3_1 (ix3 n Y X) (0 : Fin 1) = ix4 n Y X 0 := by
    funext b; fin_cases b <;> rfl
  show GatherDims.start gather_S196_S49x224x224x1_S49x224x224_n_0_n_n_0_3_1 (ix3 n Y X) idx (0 : Fin 1) + 0 + 0 = q.val
  have hst : GatherDims.start gather_S196_S49x224x224x1_S49x224x224_n_0_n_n_0_3_1 (ix3 n Y X) idx (0 : Fin 1)
    = min (idx (GatherDims.siIdx gather_S196_S49x224x224x1_S49x224x224_n_0_n_n_0_3_1 (ix3 n Y X) (0 : Fin 1))).toInt.toNat (196 - 1) := rfl
  rw [hst, hs, h]
  clear hst hs h
  revert q; decide +kernel

/-- The table of features read at a cell's number. -/
theorem gather_feat (x : FVec Ideal S196x96 .f32) (idx : IVec S49x224x224x1 32) (n : Fin 49) (Y X : Fin 224) (ch : Fin 96) (q : Fin 196)
    (h : idx (ix4 n Y X 0) = BitVec.ofNat 32 q.val) :
    Host.gather gather_S196x96_S49x224x224x1_S49x224x224x96_3_0_n_n_0_3_196 x idx (ix4 n Y X ch) = x (ix2 q ch) := by
  have hs : GatherDims.siIdx gather_S196x96_S49x224x224x1_S49x224x224x96_3_0_n_n_0_3_196 (ix4 n Y X ch) (0 : Fin 1) = ix4 n Y X 0 := by
    funext b; fin_cases b <;> rfl
  refine congrArg x (funext fun a => ?_)
  refine Fin.ext ?_
  fin_cases a
  · show GatherDims.start gather_S196x96_S49x224x224x1_S49x224x224x96_3_0_n_n_0_3_196 (ix4 n Y X ch) idx (0 : Fin 2) + 0 + 0 = q.val
    have hst : GatherDims.start gather_S196x96_S49x224x224x1_S49x224x224x96_3_0_n_n_0_3_196 (ix4 n Y X ch) idx (0 : Fin 2)
      = min (idx (GatherDims.siIdx gather_S196x96_S49x224x224x1_S49x224x224x96_3_0_n_n_0_3_196 (ix4 n Y X ch) (0 : Fin 1))).toInt.toNat (196 - 1) := rfl
    rw [hst, hs, h]
    clear hst hs h
    revert q; decide +kernel
  · show 0 + 0 + ch.val = ch.val
    omega

/-- The word of a pixel's row, taken down to the grid of cells and rounded, is its cell's. -/
theorem base_word (a : Fin 14) (y : Fin 16) : FloatOps.fptosi (F := Ideal) (φ := .f32) 32
    (min (FloatOps.sitofp (F := Ideal) FTy.f32 13#32) (max (FloatOps.sitofp (F := Ideal) FTy.f32 0#32)
      (Ideal.liftRound Ideal.roundHalfEven (Ideal.div (FloatOps.sitofp (F := Ideal) FTy.f32 (BitVec.ofNat 32 (pix a y).val) + Ideal.ofBits FTy.f32 1056964608#32)
        (Ideal.ofBits FTy.f32 1098907648#32) - Ideal.ofBits FTy.f32 1056964608#32)))) = BitVec.ofNat 32 a.val := by
  have h13 : FloatOps.sitofp (F := Ideal) FTy.f32 13#32 = ((13 : ℝ) : EReal) := by rw [show (13#32) = BitVec.ofNat 32 13 from rfl, sitofp_nat 13 (by norm_num)]; norm_num
  have h0 : FloatOps.sitofp (F := Ideal) FTy.f32 0#32 = ((0 : ℝ) : EReal) := by rw [show (0#32) = BitVec.ofNat 32 0 from rfl, sitofp_nat 0 (by norm_num)]; norm_num
  have ha : (a.val : ℝ) ≤ 13 := by exact_mod_cast (by omega : a.val ≤ 13)
  have ha0 : (0 : ℝ) ≤ a.val := by positivity
  have hy : (y.val : ℝ) ≤ 15 := by exact_mod_cast (by omega : y.val ≤ 15)
  have hy0 : (0 : ℝ) ≤ y.val := by positivity
  rw [h13, h0, sitofp_nat _ (by have := (pix a y).isLt; omega), Nums.half, Nums.sixteen, Ideal.div_coe (by norm_num), ← EReal.coe_add, ← EReal.coe_mul, ← EReal.coe_sub,
    Ideal.liftRound_coe]
  have hr : Ideal.roundHalfEven ((((pix a y).val : ℝ) + 1 / 2) * (1 / 16) - 1 / 2) = (a.val : ℤ) := by
    have hv : (((pix a y).val : ℝ) + 1 / 2) * (1 / 16) - 1 / 2 = a.val + (((y.val : ℝ) + 1 / 2) / 16 - 1 / 2) := by
      simp only [pix]; push_cast; ring
    rw [hv]
    unfold Ideal.roundHalfEven
    by_cases h8 : (8 : ℝ) ≤ y.val
    · have hf : ⌊(a.val : ℝ) + (((y.val : ℝ) + 1 / 2) / 16 - 1 / 2)⌋ = (a.val : ℤ) := by
        rw [Int.floor_eq_iff]; push_cast; constructor <;> linarith
      simp only [hf]
      rw [if_pos (by push_cast; linarith)]
    · have h7 : (y.val : ℝ) ≤ 7 := by
        have : ¬ 8 ≤ y.val := fun h => h8 (by exact_mod_cast h)
        exact_mod_cast (by omega : y.val ≤ 7)
      have hf : ⌊(a.val : ℝ) + (((y.val : ℝ) + 1 / 2) / 16 - 1 / 2)⌋ = (a.val : ℤ) - 1 := by
        rw [Int.floor_eq_iff]; push_cast; constructor <;> linarith
      simp only [hf]
      rw [if_neg (by push_cast; linarith), if_pos (by push_cast; linarith)]
      omega
  rw [hr, coe_max, coe_min, max_eq_right (by push_cast; exact ha0), min_eq_right (by push_cast; exact ha)]
  show Ideal.fptosi 32 _ = _
  rw [Ideal.fptosi, Ideal.toIntClamped_coe, if_pos (by push_cast; exact ha0)]
  rw [show ⌊((((a.val : ℕ) : ℤ) : ℝ))⌋ = (a.val : ℤ) from Int.floor_intCast _]
  clear h13 h0 ha ha0 hy hy0 hr
  revert a; decide +kernel

variable (V0 : Valuation τ sig (Elt Ideal)) (n : Fin 49) (a b : Fin 14) (y x : Fin 16)

theorem r126_at : res_main_v126 V0 (ix3 n 0 0) = BitVec.ofNat 32 n.val := by
  unfold res_main_v126; clean_types; pointwise []

theorem dy_word : ∀ n : Fin 49, IntOp.subi (IntOp.divsi ArithUnit.host (BitVec.ofNat 32 n.val) 7#32) 3#32 = BitVec.ofNat 32 (dyF n).val - 3#32 := by decide +kernel
theorem dx_word : ∀ n : Fin 49, IntOp.subi (IntOp.remsi ArithUnit.host (BitVec.ofNat 32 n.val) 7#32) 3#32 = BitVec.ofNat 32 (dxF n).val - 3#32 := by decide +kernel

/-- The row part of an offset. -/
theorem r130_at : res_main_v130 V0 (ix3 n 0 0) = BitVec.ofNat 32 (dyF n).val - 3#32 := by
  rw [← dy_word, ← r126_at V0]
  unfold res_main_v130; clean_types; pointwise []

/-- The column part of an offset. -/
theorem r134_at : res_main_v134 V0 (ix3 n 0 0) = BitVec.ofNat 32 (dxF n).val - 3#32 := by
  rw [← dx_word, ← r126_at V0]
  unfold res_main_v134; clean_types; pointwise []

theorem r6_at (Y X : Fin 224) : res_main_v6 V0 (ix2 Y X) = FloatOps.sitofp (F := Ideal) FTy.f32 (BitVec.ofNat 32 Y.val) := by
  unfold res_main_v6; clean_types; pointwise []
theorem r7_at (Y X : Fin 224) : res_main_v7 V0 (ix2 Y X) = FloatOps.sitofp (F := Ideal) FTy.f32 (BitVec.ofNat 32 X.val) := by
  unfold res_main_v7; clean_types; pointwise []

/-- The row of the cell that an offset leads to. -/
theorem r139_at (X : Fin 224) : res_main_v139 V0 (ix3 n (pix a y) X) = BitVec.ofNat 32 (clampC a (dyF n)).val := by
  rw [← clamp_word, ← base_word a y, ← r130_at V0 n, ← r6_at V0 (pix a y) X]
  unfold res_main_v139; clean_types; pointwise []
  rfl

/-- The column of the cell that an offset leads to. -/
theorem r144_at (Y : Fin 224) : res_main_v144 V0 (ix3 n Y (pix b x)) = BitVec.ofNat 32 (clampC b (dxF n)).val := by
  rw [← clamp_word, ← base_word b x, ← r134_at V0 n, ← r7_at V0 Y (pix b x)]
  unfold res_main_v144; clean_types; pointwise []
  rfl

/-- The cell that an offset of a pixel leads to. -/
abbrev cl (n : Fin 49) (a b : Fin 14) : Fin 196 := cell (clampC a (dyF n)) (clampC b (dxF n))

end Cert.ReferenceIdeal.Value

end
-- ==== Proof.RReads.lean ====
/- The reference's arrays at an index. -/
module

public import proofs.«01_k».proof.Proof.RForm

@[expose] public section

set_option maxRecDepth 16384

noncomputable section

namespace Cert.ReferenceIdeal.Value

open Idealize.ShloMosaic Idealize.ShloMosaic.TcCoe Idealize.SL.Sem
open Cert.ReferenceIdeal Cert.ReferenceIdeal.Gen Cert.Spec

variable (V0 : Valuation τ sig (Elt Ideal)) (n : Fin 49) (a b u v : Fin 14) (y x : Fin 16) (Y X : Fin 224)

/-- Wrapping a negative number around leaves the number of a cell as it is. -/
theorem wrap_at (w : IVec S49x224x224 32) (q : Fin 196) (h : w (ix3 n Y X) = BitVec.ofNat 32 q.val) :
    broadcastInDim S49x224x224x1 ![0, 1, 2] bcast_S49x224x224_S49x224x224x1_0_1_2
      (select (cmpi CmpIPredicate.slt w (broadcastInDim S49x224x224 ![] bcast_S_S49x224x224 (constantI S_ 32 0#32)))
        (addi w (broadcastInDim S49x224x224 ![] bcast_S_S49x224x224 (constantI S_ 32 196#32))) w) (ix4 n Y X 0) = BitVec.ofNat 32 q.val := by
  pointwise []
  rw [h]
  clear h
  revert q; decide +kernel

/-- The number of the cell that an offset of a pixel leads to. -/
theorem r178_at : res_main_v178 V0 (ix3 n (pix a y) (pix b x)) = BitVec.ofNat 32 (cl n a b).val := by
  rw [cl, ← cell_word, ← r139_at V0 n a y (pix b x), ← r144_at V0 n b x (pix a y)]
  unfold res_main_v178; clean_types; pointwise []

/-- A table of the cells laid out in one row. -/
theorem flat_at (t : FVec Ideal S14x14 .f32) (h : S14x14.ShapeCasts S196) : shapeCast S196 t h (ix1 (cell u v)) = t (ix2 u v) := by
  pointwise []
  exact congrArg₂ (fun p q => t (ix2 p q)) (Fin.ext (by simp only [cell]; omega)) (Fin.ext (by simp only [cell]; omega))

/-- A table of the cells laid out in one row, off an array with two axes of one. -/
theorem flat4_at (t : FVec Ideal S1x1x14x14 .f32) (h : S1x1x14x14.ShapeCasts S196) : shapeCast S196 t h (ix1 (cell u v)) = t (ix4 0 0 u v) := by
  pointwise []
  exact congrArg₂ (fun p q => t (ix4 0 0 p q)) (Fin.ext (by simp only [cell]; omega)) (Fin.ext (by simp only [cell]; omega))

theorem r41_at : res_main_v41 V0 (ix2 Y a) = ((hat (centre Y) a.val : ℝ) : EReal) := by
  have h : (FloatOps.sitofp (F := Ideal) FTy.f32 (BitVec.ofNat 32 Y.val) + Ideal.ofBits FTy.f32 1056964608#32) * Ideal.ofBits FTy.f32 1031798784#32
      - Ideal.ofBits FTy.f32 1056964608#32 = ((centre Y : ℝ) : EReal) := by
    rw [sitofp_nat _ (by omega), Nums.half, Nums.sixteenth, ← EReal.coe_add, ← EReal.coe_mul, ← EReal.coe_sub]
    congr 1; unfold centre; ring
  rw [← hat_coe _ _ (by omega), ← h]
  unfold res_main_v41; clean_types; pointwise []

/-- The weights that take the grid of cells up to the output. -/
theorem r45_at : res_main_v45 V0 (ix2 Y a) = wgt (centre Y) a := by
  unfold wgt
  simp only [← r41_at V0]
  unfold res_main_v45; clean_types; pointwise []

theorem middle_eq : (FloatOps.sitofp (F := Ideal) FTy.f32 (BitVec.ofNat 32 a.val) + Ideal.ofBits FTy.f32 1056964608#32) * Ideal.ofBits FTy.f32 1098907648#32
      - Ideal.ofBits FTy.f32 1056964608#32 = ((middle a : ℝ) : EReal) := by
  rw [sitofp_nat _ (by omega), Nums.half, Nums.sixteen, ← EReal.coe_add, ← EReal.coe_mul, ← EReal.coe_sub]
  congr 1; unfold middle; ring

theorem r69_at : res_main_v69 V0 (ix2 a Y) = ((hat (middle a) Y.val : ℝ) : EReal) := by
  rw [← hat_coe _ _ (by omega), ← middle_eq]
  unfold res_main_v69; clean_types; pointwise []

/-- The weights that take the guide down to the grid of cells. -/
theorem r73_at : res_main_v73 V0 (ix2 a Y) = wgt (middle a) Y := by
  unfold wgt
  simp only [← r69_at V0]
  unfold res_main_v73; clean_types; pointwise []
theorem r96_at : res_main_v96 V0 (ix2 a Y) = wgt (middle a) Y := r73_at V0 a Y
theorem r119_at : res_main_v119 V0 (ix2 a Y) = wgt (middle a) Y := r73_at V0 a Y

/-- The scale of a pixel, before it is rounded up. -/
def scale (A2 A3 : FVec Ideal S1x1x14x14 .f32) (Y X : Fin 224) : EReal :=
  ((2 : ℝ) : EReal) * ∑ j : Fin 14, (∑ i : Fin 14, wgt (centre Y) i * max (Ideal.exp (A2 (ix4 0 0 i j))) (Ideal.exp (A3 (ix4 0 0 i j)))) * wgt (centre X) j

theorem r0_at : res_main_v0 V0 (ix4 0 0 u v) = Ideal.exp (V0 (Proc.devRef .tc main_arg2) (ix4 0 0 u v)) := by
  unfold res_main_v0; clean_types; pointwise []
theorem r1_at : res_main_v1 V0 (ix4 0 0 u v) = Ideal.exp (V0 (Proc.devRef .tc main_arg3) (ix4 0 0 u v)) := by
  unfold res_main_v1; clean_types; pointwise []

/-- The radius of a pixel's window. -/
theorem r53_at : res_main_v53 V0 (ix2 Y X) = FloatOps.fptosi (F := Ideal) (φ := .f32) 32
    (rad (scale (V0 (Proc.devRef .tc main_arg2)) (V0 (Proc.devRef .tc main_arg3)) Y X)) := by
  have h3 : FloatOps.sitofp (F := Ideal) FTy.f32 3#32 = ((3 : ℝ) : EReal) := by rw [show (3#32) = BitVec.ofNat 32 3 from rfl, sitofp_nat 3 (by norm_num)]; norm_num
  have h1 : FloatOps.sitofp (F := Ideal) FTy.f32 1#32 = (1 : EReal) := by rw [show (1#32) = BitVec.ofNat 32 1 from rfl, sitofp_nat 1 (by norm_num)]; norm_num
  unfold rad scale
  simp only [← r45_at V0, ← r0_at V0, ← r1_at V0]
  rw [← h3, ← h1, ← Nums.two]
  unfold res_main_v53; clean_types; pointwise []

/-- The deviations of the cell that an offset leads to. -/
theorem r187_at : res_main_v187 V0 (ix3 n (pix a y) (pix b x))
    = dev (V0 (Proc.devRef .tc main_arg2) (ix4 0 0 (clampC a (dyF n)) (clampC b (dxF n)))) := by
  unfold res_main_v187; clean_types; pointwise []
  rw [gather_cell _ _ n _ _ _ (wrap_at n _ _ (res_main_v178 V0) _ (r178_at V0 n a b y x)), flat4_at, r0_at, Nums.micro]
  rfl
theorem r201_at : res_main_v201 V0 (ix3 n (pix a y) (pix b x))
    = dev (V0 (Proc.devRef .tc main_arg3) (ix4 0 0 (clampC a (dyF n)) (clampC b (dxF n)))) := by
  unfold res_main_v201; clean_types; pointwise []
  rw [gather_cell _ _ n _ _ _ (wrap_at n _ _ (res_main_v192 V0) _ (r178_at V0 n a b y x)), flat4_at, r1_at, Nums.micro]
  rfl
theorem r227_at : res_main_v227 V0 (ix3 n (pix a y) (pix b x))
    = dev (V0 (Proc.devRef .tc main_arg5) (ix4 0 0 (clampC a (dyF n)) (clampC b (dxF n)))) := by
  unfold res_main_v227; clean_types; pointwise []
  rw [gather_cell _ _ n _ _ _ (wrap_at n _ _ (res_main_v218 V0) _ (r178_at V0 n a b y x)), flat4_at, Nums.micro]
  rfl

/-- The angle of the cell that an offset leads to. -/
theorem r213_at : res_main_v213 V0 (ix3 n (pix a y) (pix b x))
    = ang (V0 (Proc.devRef .tc main_arg4) (ix4 0 0 (clampC a (dyF n)) (clampC b (dxF n)))) := by
  unfold res_main_v213; clean_types; pointwise []
  rw [gather_cell _ _ n _ _ _ (wrap_at n _ _ (res_main_v206 V0) _ (r178_at V0 n a b y x)), flat4_at]
  unfold ang
  rw [← Nums.pi]
  pointwise []

/-- The guide's middle value of a cell. -/
def lows (A1 : FVec Ideal S1x3x224x224 .f32) (u v : Fin 14) (ch : Fin 3) : EReal :=
  ((1 / 4 : ℝ) : EReal) * (A1 (ix4 0 ch (pix u 7) (pix v 7)) + A1 (ix4 0 ch (pix u 7) (pix v 8))
    + A1 (ix4 0 ch (pix u 8) (pix v 7)) + A1 (ix4 0 ch (pix u 8) (pix v 8)))

/-- One value less another. -/
def way (g l : EReal) : EReal := g - l
/-- A way along a turned axis. -/
def turn (p q c s : EReal) : EReal := p * c + q * s

/-- The way in each channel of the guide. -/
theorem r268_at : res_main_v268 V0 (ix3 n (pix a y) (pix b x)) = way (V0 (Proc.devRef .tc main_arg1) (ix4 0 0 (pix a y) (pix b x)))
    (lows (V0 (Proc.devRef .tc main_arg1)) (clampC a (dyF n)) (clampC b (dxF n)) 0) := by
  unfold way
  unfold res_main_v268; clean_types; pointwise []
  rw [gather_cell _ _ n _ _ _ (wrap_at n _ _ (res_main_v259 V0) _ (r178_at V0 n a b y x)), flat_at]
  pointwise []
  simp only [r73_at]
  exact congrArg (way (V0 (Proc.devRef .tc main_arg1) (ix4 0 0 (pix a y) (pix b x))))
    (lowres _ _ fun p q => V0 (Proc.devRef .tc main_arg1) (ix4 0 0 p q))
theorem r287_at : res_main_v287 V0 (ix3 n (pix a y) (pix b x)) = way (V0 (Proc.devRef .tc main_arg1) (ix4 0 1 (pix a y) (pix b x)))
    (lows (V0 (Proc.devRef .tc main_arg1)) (clampC a (dyF n)) (clampC b (dxF n)) 1) := by
  unfold way
  unfold res_main_v287; clean_types; pointwise []
  rw [gather_cell _ _ n _ _ _ (wrap_at n _ _ (res_main_v278 V0) _ (r178_at V0 n a b y x)), flat_at]
  pointwise []
  simp only [r96_at]
  exact congrArg (way (V0 (Proc.devRef .tc main_arg1) (ix4 0 1 (pix a y) (pix b x))))
    (lowres _ _ fun p q => V0 (Proc.devRef .tc main_arg1) (ix4 0 1 p q))
theorem r305_at : res_main_v305 V0 (ix3 n (pix a y) (pix b x)) = way (V0 (Proc.devRef .tc main_arg1) (ix4 0 2 (pix a y) (pix b x)))
    (lows (V0 (Proc.devRef .tc main_arg1)) (clampC a (dyF n)) (clampC b (dxF n)) 2) := by
  unfold way
  unfold res_main_v305; clean_types; pointwise []
  rw [gather_cell _ _ n _ _ _ (wrap_at n _ _ (res_main_v296 V0) _ (r178_at V0 n a b y x)), flat_at]
  pointwise []
  simp only [r119_at]
  exact congrArg (way (V0 (Proc.devRef .tc main_arg1) (ix4 0 2 (pix a y) (pix b x))))
    (lowres _ _ fun p q => V0 (Proc.devRef .tc main_arg1) (ix4 0 2 p q))

theorem way_eq (c b : Fin 14) (x : Fin 16) : FloatOps.sitofp (F := Ideal) FTy.f32 (BitVec.ofNat 32 (pix b x).val)
      - ((FloatOps.sitofp (F := Ideal) FTy.f32 (BitVec.ofNat 32 c.val) + Ideal.ofBits FTy.f32 1056964608#32) * Ideal.ofBits FTy.f32 1098907648#32
        - Ideal.ofBits FTy.f32 1056964608#32) = ((mid x - 16 * ((c.val : ℝ) - b.val) : ℝ) : EReal) := by
  rw [middle_eq, sitofp_nat _ (by have := (pix b x).isLt; omega), ← EReal.coe_sub]
  congr 1; simp only [middle, mid, pix]; push_cast; ring

/-- The way from the middle of the cell that an offset leads to, along a row. -/
theorem r163_at : res_main_v163 V0 (ix3 n (pix a y) (pix b x)) = ((mid x - 16 * (((clampC b (dxF n)).val : ℝ) - b.val) : ℝ) : EReal) := by
  rw [← way_eq, ← r7_at V0 (pix a y) (pix b x), ← r144_at V0 n b x (pix a y)]
  unfold res_main_v163; clean_types; pointwise []
/-- The way from the middle of the cell that an offset leads to, along a column. -/
theorem r173_at : res_main_v173 V0 (ix3 n (pix a y) (pix b x)) = ((mid y - 16 * (((clampC a (dyF n)).val : ℝ) - a.val) : ℝ) : EReal) := by
  rw [← way_eq, ← r6_at V0 (pix a y) (pix b x), ← r139_at V0 n a y (pix b x)]
  unfold res_main_v173; clean_types; pointwise []

theorem r228_at (Y X) : res_main_v228 V0 (ix3 n Y X) = Ideal.cos (res_main_v213 V0 (ix3 n Y X)) := by
  unfold res_main_v228; clean_types; pointwise []
theorem r229_at (Y X) : res_main_v229 V0 (ix3 n Y X) = Ideal.sin (res_main_v213 V0 (ix3 n Y X)) := by
  unfold res_main_v229; clean_types; pointwise []
theorem r232_at (Y X) : res_main_v232 V0 (ix3 n Y X) = turn (res_main_v163 V0 (ix3 n Y X)) (res_main_v173 V0 (ix3 n Y X))
    (res_main_v228 V0 (ix3 n Y X)) (res_main_v229 V0 (ix3 n Y X)) := by
  unfold turn
  unfold res_main_v232; clean_types; pointwise []
theorem r244_at (Y X) : res_main_v244 V0 (ix3 n Y X) = turn (Neg.neg (α := EReal) (res_main_v163 V0 (ix3 n Y X))) (res_main_v173 V0 (ix3 n Y X))
    (res_main_v229 V0 (ix3 n Y X)) (res_main_v228 V0 (ix3 n Y X)) := by
  unfold turn
  unfold res_main_v244; clean_types; pointwise []

/-- Three quotients, by doubled squares of deviations. -/
def quot (U V p q r g0 g1 g2 : EReal) : EReal :=
  Ideal.div (-(U * U)) (((2 : ℝ) : EReal) * (p * p) + ((Nums.e8 : ℝ) : EReal)) - Ideal.div (V * V) (((2 : ℝ) : EReal) * (q * q) + ((Nums.e8 : ℝ) : EReal))
    - Ideal.div (g0 * g0 + g1 * g1 + g2 * g2) (((2 : ℝ) : EReal) * (r * r) + ((Nums.e8 : ℝ) : EReal))

theorem expo_eq (p q t r : EReal) (g l : Fin 3 → EReal) (dx dy : ℝ) : expo p q t r g l dx dy
    = quot (turn dx dy (Ideal.cos (ang t)) (Ideal.sin (ang t))) (turn (-(dx : EReal)) dy (Ideal.sin (ang t)) (Ideal.cos (ang t)))
        (dev p) (dev q) (dev r) (way (g 0) (l 0)) (way (g 1) (l 1)) (way (g 2) (l 2)) := rfl

/-- The exponent of an offset of a pixel, least where the offset lies in no window. -/
theorem r315_at : res_main_v315 V0 (ix3 n (pix a y) (pix b x))
    = if within n (scale (V0 (Proc.devRef .tc main_arg2)) (V0 (Proc.devRef .tc main_arg3)) (pix a y) (pix b x)) then
        expo (V0 (Proc.devRef .tc main_arg2) (ix4 0 0 (clampC a (dyF n)) (clampC b (dxF n))))
          (V0 (Proc.devRef .tc main_arg3) (ix4 0 0 (clampC a (dyF n)) (clampC b (dxF n))))
          (V0 (Proc.devRef .tc main_arg4) (ix4 0 0 (clampC a (dyF n)) (clampC b (dxF n))))
          (V0 (Proc.devRef .tc main_arg5) (ix4 0 0 (clampC a (dyF n)) (clampC b (dxF n))))
          (fun ch => V0 (Proc.devRef .tc main_arg1) (ix4 0 ch (pix a y) (pix b x)))
          (lows (V0 (Proc.devRef .tc main_arg1)) (clampC a (dyF n)) (clampC b (dxF n)))
          (mid x - 16 * (((clampC b (dxF n)).val : ℝ) - b.val)) (mid y - 16 * (((clampC a (dyF n)).val : ℝ) - a.val))
      else ⊥ := by
  rw [← mask_ref, ← r53_at V0, ← r130_at V0 n, ← r134_at V0 n]
  rw [expo_eq]
  beta_reduce
  rw [← r163_at V0 n a b y x, ← r173_at V0 n a b y x, ← r213_at V0 n a b y x, ← r228_at, ← r229_at, ← r232_at, ← r244_at,
    ← r187_at V0 n a b y x, ← r201_at V0 n a b y x, ← r227_at V0 n a b y x, ← r268_at V0 n a b y x, ← r287_at V0 n a b y x, ← r305_at V0 n a b y x]
  unfold quot
  rw [← Nums.two, ← Nums.nano, ← Nums.neginf]
  unfold res_main_v315; clean_types; pointwise []
  rfl

theorem r323_at (Y X) : res_main_v323 V0 (ix3 n Y X) = wexp (fun k => res_main_v315 V0 (ix3 k Y X)) n := by
  unfold wexp
  rw [← Nums.neginf]
  have h0 : (id (constant (F := Ideal) S_ FTy.f32 0#32) : FVec Ideal S_ .f32) ix0 = 0 := Ideal.ofBits_zero_f32
  rw [← h0]
  unfold res_main_v323; clean_types; pointwise []

/-- The features of the cells, one row to a cell. -/
def refFeat (A0 : FVec Ideal S1x96x14x14 .f32) : FVec Ideal S196x96 .f32 :=
  shapeCast S196x96 (transpose S14x14x96 [1, 2, 0] (shapeCast S96x14x14 A0 shapeCasts_S1x96x14x14_S96x14x14) transposes_S96x14x14_S14x14x96_1_2_0)
    shapeCasts_S14x14x96_S196x96

theorem refFeat_at (A0 : FVec Ideal S1x96x14x14 .f32) (ch : Fin 96) : refFeat A0 (ix2 (cell u v) ch) = A0 (ix4 0 ch u v) := by
  pointwise [refFeat]
  exact congrArg₂ (fun p q => A0 (ix4 0 ch p q)) (Fin.ext (by simp only [cell]; omega)) (Fin.ext (by simp only [cell]; omega))

/-- What the reference returns. -/
def out : FVec Ideal S1x96x224x224 .f32 :=
  broadcastInDim S1x96x224x224 ![1, 2, 3] bcast_S96x224x224_S1x96x224x224_1_2_3 (Host.divf (transpose S96x224x224 [2, 0, 1]
    (Host.reduceAdd (mulf (Host.gather gather_S196x96_S49x224x224x1_S49x224x224x96_3_0_n_n_0_3_196 (refFeat (V0 (Proc.devRef .tc main_arg0)))
      (broadcastInDim S49x224x224x1 ![0, 1, 2] bcast_S49x224x224_S49x224x224x1_0_1_2
        (select (cmpi .slt (res_main_v327 V0) (broadcastInDim S49x224x224 ![] bcast_S_S49x224x224 (constantI S_ 32 0#32)))
          (addi (res_main_v327 V0) (broadcastInDim S49x224x224 ![] bcast_S_S49x224x224 (constantI S_ 32 196#32))) (res_main_v327 V0))))
      (broadcastInDim S49x224x224x96 ![0, 1, 2, 3] bcast_S49x224x224x1_S49x224x224x96_0_1_2_3
        (broadcastInDim S49x224x224x1 ![0, 1, 2] bcast_S49x224x224_S49x224x224x1_0_1_2 (res_main_v323 V0))))
      (constant S_ .f32 0x00000000#32) reducesTo_S49x224x224x96_S224x224x96_d0 h_S_) transposes_S224x224x96_S96x224x224_2_0_1)
    (broadcastInDim S96x224x224 ![0, 1, 2] bcast_S1x224x224_S96x224x224_0_1_2 (broadcastInDim S1x224x224 ![1, 2] bcast_S224x224_S1x224x224_1_2
      (maximumf (Host.reduceAdd (res_main_v323 V0) (constant S_ .f32 0x00000000#32) reducesTo_S49x224x224_S224x224_d0 h_S_)
        (broadcastInDim S224x224 ![] bcast_S_S224x224 (constant S_ .f32 0x322BCC77#32))))))

/-- The reference's result is a weighted mean of the features over the window. -/
theorem out_at (ch : Fin 96) : out V0 (ix4 0 ch (pix a y) (pix b x))
    = mean (fun n => V0 (Proc.devRef .tc main_arg0) (ix4 0 ch (clampC a (dyF n)) (clampC b (dxF n))))
        (fun n => res_main_v323 V0 (ix3 n (pix a y) (pix b x))) := by
  unfold mean
  rw [← Nums.nano]
  pointwise [out]
  have h : ∀ n : Fin 49, Host.gather gather_S196x96_S49x224x224x1_S49x224x224x96_3_0_n_n_0_3_196 (refFeat (V0 (Proc.devRef .tc main_arg0)))
      (broadcastInDim S49x224x224x1 ![0, 1, 2] bcast_S49x224x224_S49x224x224x1_0_1_2
        (select (cmpi .slt (res_main_v327 V0) (broadcastInDim S49x224x224 ![] bcast_S_S49x224x224 (constantI S_ 32 0#32)))
          (addi (res_main_v327 V0) (broadcastInDim S49x224x224 ![] bcast_S_S49x224x224 (constantI S_ 32 196#32))) (res_main_v327 V0)))
      (ix4 n (pix a y) (pix b x) ch) = V0 (Proc.devRef .tc main_arg0) (ix4 0 ch (clampC a (dyF n)) (clampC b (dxF n))) := fun n => by
    rw [gather_feat _ _ n _ _ ch _ (wrap_at n _ _ (res_main_v327 V0) _ (r178_at V0 n a b y x)), refFeat_at]
  simp only [h]

end Cert.ReferenceIdeal.Value

end
-- ==== Proof.Equation.lean ====
/- The kernel's result and the reference's are one array: each entry is the same weighted mean. -/
module

public import proofs.«01_k».proof.Proof.KOut
public import proofs.«01_k».proof.Proof.RReads

/-! The equation: from equal arguments, the kernel and the reference return the same array. -/

@[expose] public section

set_option maxRecDepth 16384

noncomputable section

namespace Cert.Equation

open Idealize.ShloMosaic Idealize.ShloMosaic.TcCoe Idealize.SL.Sem Cert.Spec

/-- A row or column of the image is one of the sixteen of its cell. -/
theorem pix_surj (Y : Fin 224) : ∃ (a : Fin 14) (y : Fin 16), Y = pix a y :=
  ⟨⟨Y.val / 16, by omega⟩, ⟨Y.val % 16, by omega⟩, Fin.ext (by simp only [pix]; omega)⟩

variable (m : (ℓ : Loc Cert.KernelIdeal.nD Cert.KernelIdeal.τ Cert.KernelIdeal.sig) → Buf (Elt Ideal) ℓ) (c : Dev Cert.KernelIdeal.nD)

/-- The arguments of the kernel. -/
abbrev A0 : FVec Ideal Cert.KernelIdeal.S1x96x14x14 .f32 := m ((c.tc : Thread Cert.KernelIdeal.nD Cert.KernelIdeal.τ).loc Cert.KernelIdeal.main_arg0)
abbrev A1 : FVec Ideal Cert.KernelIdeal.S1x3x224x224 .f32 := m ((c.tc : Thread Cert.KernelIdeal.nD Cert.KernelIdeal.τ).loc Cert.KernelIdeal.main_arg1)
abbrev A2 : FVec Ideal Cert.KernelIdeal.S1x1x14x14 .f32 := m ((c.tc : Thread Cert.KernelIdeal.nD Cert.KernelIdeal.τ).loc Cert.KernelIdeal.main_arg2)
abbrev A3 : FVec Ideal Cert.KernelIdeal.S1x1x14x14 .f32 := m ((c.tc : Thread Cert.KernelIdeal.nD Cert.KernelIdeal.τ).loc Cert.KernelIdeal.main_arg3)
abbrev A4 : FVec Ideal Cert.KernelIdeal.S1x1x14x14 .f32 := m ((c.tc : Thread Cert.KernelIdeal.nD Cert.KernelIdeal.τ).loc Cert.KernelIdeal.main_arg4)
abbrev A5 : FVec Ideal Cert.KernelIdeal.S1x1x14x14 .f32 := m ((c.tc : Thread Cert.KernelIdeal.nD Cert.KernelIdeal.τ).loc Cert.KernelIdeal.main_arg5)

/-- The resampled scale, taken along the rows first or along the columns first. -/
theorem reach_eq (x4 : Vec Ideal Cert.KernelIdeal.S14x14 .f32) (A2 A3 : FVec Ideal Cert.KernelIdeal.S1x1x14x14 .f32)
    (hx : ∀ u v, x4 (ix2 u v) = max (Ideal.exp (A2 (ix4 0 0 u v))) (Ideal.exp (A3 (ix4 0 0 u v)))) (Y X : Fin 224) :
    Cert.KernelIdeal.Value.reach x4 Y X = Cert.ReferenceIdeal.Value.scale A2 A3 Y X := by
  unfold Cert.KernelIdeal.Value.reach Cert.ReferenceIdeal.Value.scale
  simp only [hx]
  refine congrArg (((2 : ℝ) : EReal) * ·) (Finset.sum_congr rfl fun j _ => ?_)
  rw [mul_comm]
  exact congrArg (· * wgt (centre X) j) (Finset.sum_congr rfl fun i _ => mul_comm _ _)

/-- The guide's middle value of a cell, read in blocks or in the image. -/
theorem low_eq (x5 : Vec Ideal Cert.KernelIdeal.S196x3x256 .f32) (A1 : FVec Ideal Cert.KernelIdeal.S1x3x224x224 .f32)
    (hx : ∀ u v y x ch, x5 (ix3 (cell u v) ch (lane y x)) = A1 (ix4 0 ch (pix u y) (pix v x))) (u v : Fin 14) :
    Cert.KernelIdeal.Value.low x5 (cell u v) = Cert.ReferenceIdeal.Value.lows A1 u v := by
  funext ch
  unfold Cert.KernelIdeal.Value.low Cert.ReferenceIdeal.Value.lows
  rw [← hx u v 7 7 ch, ← hx u v 7 8 ch, ← hx u v 8 7 ch, ← hx u v 8 8 ch]
  rfl

/-- The exponent of an offset, off the kernel's arrays or off the arguments. -/
theorem lexp_eq (x2 : Vec Ideal Cert.KernelIdeal.S4x196 .f32) (x5 : Vec Ideal Cert.KernelIdeal.S196x3x256 .f32)
    (A1 : FVec Ideal Cert.KernelIdeal.S1x3x224x224 .f32) (A2 A3 A4 A5 : FVec Ideal Cert.KernelIdeal.S1x1x14x14 .f32)
    (h2 : ∀ u v, x2 (ix2 0 (cell u v)) = A2 (ix4 0 0 u v)) (h3 : ∀ u v, x2 (ix2 1 (cell u v)) = A3 (ix4 0 0 u v))
    (h4 : ∀ u v, x2 (ix2 2 (cell u v)) = A4 (ix4 0 0 u v)) (h5 : ∀ u v, x2 (ix2 3 (cell u v)) = A5 (ix4 0 0 u v))
    (hx : ∀ u v y x ch, x5 (ix3 (cell u v) ch (lane y x)) = A1 (ix4 0 ch (pix u y) (pix v x))) (a b : Fin 14) (y x : Fin 16) (n : Fin 49) :
    Cert.KernelIdeal.Value.lexp x2 x5 a b y x n
    = expo (A2 (ix4 0 0 (clampC a (dyF n)) (clampC b (dxF n)))) (A3 (ix4 0 0 (clampC a (dyF n)) (clampC b (dxF n))))
        (A4 (ix4 0 0 (clampC a (dyF n)) (clampC b (dxF n)))) (A5 (ix4 0 0 (clampC a (dyF n)) (clampC b (dxF n))))
        (fun ch => A1 (ix4 0 ch (pix a y) (pix b x))) (Cert.ReferenceIdeal.Value.lows A1 (clampC a (dyF n)) (clampC b (dxF n)))
        (mid x - 16 * (((clampC b (dxF n)).val : ℝ) - b.val)) (mid y - 16 * (((clampC a (dyF n)).val : ℝ) - a.val)) := by
  unfold Cert.KernelIdeal.Value.lexp
  rw [low_eq x5 A1 hx, h2, h3, h4, h5]
  simp only [hx]

/-- The two results are one array. -/
theorem result_eq (V0 : Valuation Cert.ReferenceIdeal.τ Cert.ReferenceIdeal.sig (Elt Ideal))
    (h0 : V0 (Proc.devRef .tc Cert.ReferenceIdeal.main_arg0) = A0 m c) (h1 : V0 (Proc.devRef .tc Cert.ReferenceIdeal.main_arg1) = A1 m c)
    (h2 : V0 (Proc.devRef .tc Cert.ReferenceIdeal.main_arg2) = A2 m c) (h3 : V0 (Proc.devRef .tc Cert.ReferenceIdeal.main_arg3) = A3 m c)
    (h4 : V0 (Proc.devRef .tc Cert.ReferenceIdeal.main_arg4) = A4 m c) (h5 : V0 (Proc.devRef .tc Cert.ReferenceIdeal.main_arg5) = A5 m c) :
    Cert.ReferenceIdeal.Value.out V0 = Cert.KernelIdeal.Value.result m c := by
  funext j
  idx_vars j
  obtain rfl : j0 = 0 := Fin.ext (by omega)
  obtain ⟨a, y, rfl⟩ := pix_surj j2
  obtain ⟨b, x, rfl⟩ := pix_surj j3
  rw [Cert.ReferenceIdeal.Value.out_at, Cert.KernelIdeal.Value.result_at]
  simp only [Cert.ReferenceIdeal.Value.r323_at, Cert.ReferenceIdeal.Value.r315_at, h0, h1, h2, h3, h4, h5]
  refine congrArg₂ mean (funext fun n => ?_) (congrArg wexp (funext fun n => ?_))
  · exact (Cert.KernelIdeal.Value.e3 m c _ _ _).symm
  · rw [reach_eq _ (A2 m c) (A3 m c) (Cert.KernelIdeal.Value.e4 m c),
      lexp_eq _ _ (A1 m c) (A2 m c) (A3 m c) (A4 m c) (A5 m c) (Cert.KernelIdeal.Value.e2_0 m c) (Cert.KernelIdeal.Value.e2_1 m c)
        (Cert.KernelIdeal.Value.e2_2 m c) (Cert.KernelIdeal.Value.e2_3 m c) (Cert.KernelIdeal.Value.e5 m c)]

end Cert.Equation

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Equation
public import Idealize.ShloMosaic.Adequacy
public import Idealize.ShloMosaic.Init

@[expose] public section

noncomputable section

namespace Cert.Proof

open Idealize.ShloMosaic Idealize.ShloMosaic.TcCoe Idealize.SL.Sem

/-- The kernel runs and leaves its arguments and every counter as they were. -/
theorem frame_kernel : Cert.quiescent_Kernel := fun m ρ _ => Cert.Kernel.Gen.frame m ρ
/-- So does its idealization. -/
theorem frame_ideal : Cert.quiescent_KernelIdeal := fun m ρ _ => Cert.KernelIdeal.Gen.frame m ρ
/-- So does the reference. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The mask constant stands for minus infinity. -/
theorem preserves : Cert.preserves_Kernel_KernelIdeal :=
  IdealRules.named_const.statement Cert.KernelIdeal.κ "mask" .f32 0xF149F2CA#32 ⊥ rfl

/-- From equal arguments the kernel and the reference end with equal results. -/
theorem algebraic : Cert.algebraic_KernelIdeal_ReferenceIdeal := by
  intro m ρ m' ρ' _ hagree
  refine ⟨fun c => Cert.KernelIdeal.Value.result m c, ?_, ?_⟩
  · exact (θ_run Cert.KernelIdeal.defs _ _).mono (fun _ h c =>
        ⟨((h.1 c).2 Cert.KernelIdeal.main_v19 (Pipeline.mem_restRefs_of Cert.KernelIdeal.main_v19 (by decide) (by decide))).trans
            (Cert.KernelIdeal.Value.tail_eq m c), h.2 c⟩)
      (θ_run_and (Cert.KernelIdeal.Gen.run_main m ρ) (Cert.KernelIdeal.Gen.unchanged m ρ))
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5⟩ := hagree c
    exact Cert.Equation.result_eq m c (StableHlo.launchContents m' c) h0 h1 h2 h3 h4 h5

theorem claim : Cert.Claim := ⟨Cert.Kernel.Gen.facts, Cert.KernelIdeal.Gen.facts, Cert.ReferenceIdeal.Gen.facts,
  frame_kernel, frame_ideal, frame_reference, preserves, algebraic⟩

end Cert.Proof

end
